-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x2048 : Shape := ⟨2, ![2048, 2048]⟩
abbrev S2048x512 : Shape := ⟨2, ![2048, 512]⟩
abbrev S2x2048x256 : Shape := ⟨3, ![2, 2048, 256]⟩
abbrev S6x512x256 : Shape := ⟨3, ![6, 512, 256]⟩
abbrev S4x512x512 : Shape := ⟨3, ![4, 512, 512]⟩
abbrev S_ : Shape := ⟨0, ![]⟩
abbrev S2 : Shape := ⟨1, ![2]⟩
abbrev S6 : Shape := ⟨1, ![6]⟩
abbrev S8 : Shape := ⟨1, ![8]⟩
abbrev S4 : Shape := ⟨1, ![4]⟩
abbrev S1 : Shape := ⟨1, ![1]⟩
abbrev S1x2048x256 : Shape := ⟨3, ![1, 2048, 256]⟩
abbrev S2048x256 : Shape := ⟨2, ![2048, 256]⟩
abbrev S512x256 : Shape := ⟨2, ![512, 256]⟩
abbrev S1x512x256 : Shape := ⟨3, ![1, 512, 256]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x512, .f32⟩
  | .local _ .vmem, ⟨0, _⟩ => ⟨S512x2048, .f32⟩
  | .local _ .vmem, ⟨1, _⟩ => ⟨S2x2048x256, .f32⟩
  | .local _ .vmem, ⟨2, _⟩ => ⟨S6x512x256, .bf16⟩
  | .local _ .vmem, ⟨3, _⟩ => ⟨S4x512x512, .bf16⟩
  | .local _ .vmem, ⟨4, _⟩ => ⟨S4x512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) (c0_i32_5 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  let v15 : BitVec 32 := Scalar.addi v14 c0_i32_5
  ![0, v15.toNat]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v22 : BitVec 32 := Scalar.addi v2 c1_i32_11
  let c4_i32_12 : BitVec 32 := 4#32
  let c0_i32_13 : BitVec 32 := 0#32
  let v23 : BitVec 1 := Scalar.cmpi .eq c4_i32_12 c0_i32_13
  let c1_i32_14 : BitVec 32 := 1#32
  let v24 : BitVec 32 := Scalar.select v23 c1_i32_14 c4_i32_12
  let v25 : BitVec 32 := Scalar.remsi v22 v24
  let c0_i32_16 : BitVec 32 := 0#32
  let v27 : BitVec 1 := Scalar.cmpi .slt v25 c0_i32_16
  let c0_i32_17 : BitVec 32 := 0#32
  let v28 : BitVec 1 := Scalar.cmpi .slt v24 c0_i32_17
  let v29 : BitVec 1 := Scalar.xori v27 v28
  let c0_i32_15 : BitVec 32 := 0#32
  let v26 : BitVec 1 := Scalar.cmpi .ne v25 c0_i32_15
  let v30 : BitVec 1 := Scalar.andi v29 v26
  let v31 : BitVec 32 := Scalar.addi v25 v24
  let v32 : BitVec 32 := Scalar.select v30 v31 v25
  let c1_i32_19 : BitVec 32 := 1#32
  let v33 : BitVec 32 := Scalar.muli v32 c1_i32_19
  let v34 : BitVec 32 := Scalar.addi c0_i32_20 v33
  v34.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_21 : BitVec 32 := 2#32
  let v35 : BitVec 32 := Scalar.addi v2 c2_i32_21
  let c4_i32_22 : BitVec 32 := 4#32
  let c0_i32_23 : BitVec 32 := 0#32
  let v36 : BitVec 1 := Scalar.cmpi .eq c4_i32_22 c0_i32_23
  let c1_i32_24 : BitVec 32 := 1#32
  let v37 : BitVec 32 := Scalar.select v36 c1_i32_24 c4_i32_22
  let v38 : BitVec 32 := Scalar.remsi v35 v37
  let c0_i32_26 : BitVec 32 := 0#32
  let v40 : BitVec 1 := Scalar.cmpi .slt v38 c0_i32_26
  let c0_i32_27 : BitVec 32 := 0#32
  let v41 : BitVec 1 := Scalar.cmpi .slt v37 c0_i32_27
  let v42 : BitVec 1 := Scalar.xori v40 v41
  let c0_i32_25 : BitVec 32 := 0#32
  let v39 : BitVec 1 := Scalar.cmpi .ne v38 c0_i32_25
  let v43 : BitVec 1 := Scalar.andi v42 v39
  let v44 : BitVec 32 := Scalar.addi v38 v37
  let v45 : BitVec 32 := Scalar.select v43 v44 v38
  let c1_i32_29 : BitVec 32 := 1#32
  let v46 : BitVec 32 := Scalar.muli v45 c1_i32_29
  let v47 : BitVec 32 := Scalar.addi c0_i32_30 v46
  v47.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v48 : BitVec 32 := Scalar.addi v2 c3_i32
  let c4_i32_31 : BitVec 32 := 4#32
  let c0_i32_32 : BitVec 32 := 0#32
  let v49 : BitVec 1 := Scalar.cmpi .eq c4_i32_31 c0_i32_32
  let c1_i32_33 : BitVec 32 := 1#32
  let v50 : BitVec 32 := Scalar.select v49 c1_i32_33 c4_i32_31
  let v51 : BitVec 32 := Scalar.remsi v48 v50
  let c0_i32_35 : BitVec 32 := 0#32
  let v53 : BitVec 1 := Scalar.cmpi .slt v51 c0_i32_35
  let c0_i32_36 : BitVec 32 := 0#32
  let v54 : BitVec 1 := Scalar.cmpi .slt v50 c0_i32_36
  let v55 : BitVec 1 := Scalar.xori v53 v54
  let c0_i32_34 : BitVec 32 := 0#32
  let v52 : BitVec 1 := Scalar.cmpi .ne v51 c0_i32_34
  let v56 : BitVec 1 := Scalar.andi v55 v52
  let v57 : BitVec 32 := Scalar.addi v51 v50
  let v58 : BitVec 32 := Scalar.select v56 v57 v51
  let c1_i32_38 : BitVec 32 := 1#32
  let v59 : BitVec 32 := Scalar.muli v58 c1_i32_38
  let v60 : BitVec 32 := Scalar.addi c0_i32_39 v59
  v60.toNat
def k0_off2 (d0 : Dev nD) (c0_i32_77 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v109 : BitVec 32 := Scalar.muli v2 c2_i32_76
  let v110 : BitVec 32 := Scalar.addi v109 c0_i32_77
  ![v110.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_82 : BitVec 32 := 0#32
  let c0_i32_83 : BitVec 32 := 0#32
  ![v2.toNat, 0, 0]
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_42 : BitVec 32 := 2#32
  let v63 : BitVec 32 := Scalar.addi v2 c2_i32_42
  let c4_i32_43 : BitVec 32 := 4#32
  let c0_i32_44 : BitVec 32 := 0#32
  let v64 : BitVec 1 := Scalar.cmpi .eq c4_i32_43 c0_i32_44
  let c1_i32_45 : BitVec 32 := 1#32
  let v65 : BitVec 32 := Scalar.select v64 c1_i32_45 c4_i32_43
  let v66 : BitVec 32 := Scalar.remsi v63 v65
  let c0_i32_47 : BitVec 32 := 0#32
  let v68 : BitVec 1 := Scalar.cmpi .slt v66 c0_i32_47
  let c0_i32_48 : BitVec 32 := 0#32
  let v69 : BitVec 1 := Scalar.cmpi .slt v65 c0_i32_48
  let v70 : BitVec 1 := Scalar.xori v68 v69
  let c0_i32_46 : BitVec 32 := 0#32
  let v67 : BitVec 1 := Scalar.cmpi .ne v66 c0_i32_46
  let v71 : BitVec 1 := Scalar.andi v70 v67
  let v72 : BitVec 32 := Scalar.addi v66 v65
  let v73 : BitVec 32 := Scalar.select v71 v72 v66
  let c1_i32_80 : BitVec 32 := 1#32
  let v111 : BitVec 32 := Scalar.muli v73 c1_i32_80
  let v112 : BitVec 32 := Scalar.addi c0_i32_81 v111
  v112.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_127 : BitVec 32 := 0#32
  let c256_i32_128 : BitVec 32 := 256#32
  ![v2.toNat, 0, 256]
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v121 : BitVec 32 := Scalar.addi v2 c2_i32_86
  let c4_i32_87 : BitVec 32 := 4#32
  let c0_i32_88 : BitVec 32 := 0#32
  let v122 : BitVec 1 := Scalar.cmpi .eq c4_i32_87 c0_i32_88
  let c1_i32_89 : BitVec 32 := 1#32
  let v123 : BitVec 32 := Scalar.select v122 c1_i32_89 c4_i32_87
  let v124 : BitVec 32 := Scalar.remsi v121 v123
  let c0_i32_91 : BitVec 32 := 0#32
  let v126 : BitVec 1 := Scalar.cmpi .slt v124 c0_i32_91
  let c0_i32_92 : BitVec 32 := 0#32
  let v127 : BitVec 1 := Scalar.cmpi .slt v123 c0_i32_92
  let v128 : BitVec 1 := Scalar.xori v126 v127
  let c0_i32_90 : BitVec 32 := 0#32
  let v125 : BitVec 1 := Scalar.cmpi .ne v124 c0_i32_90
  let v129 : BitVec 1 := Scalar.andi v128 v125
  let v130 : BitVec 32 := Scalar.addi v124 v123
  let v131 : BitVec 32 := Scalar.select v129 v130 v124
  let c1_i32_125 : BitVec 32 := 1#32
  let v169 : BitVec 32 := Scalar.muli v131 c1_i32_125
  let v170 : BitVec 32 := Scalar.addi c0_i32_126 v169
  v170.toNat
def k0_dev6 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v179 : BitVec 32 := Scalar.addi v2 c1_i32_131
  let c4_i32_132 : BitVec 32 := 4#32
  let c0_i32_133 : BitVec 32 := 0#32
  let v180 : BitVec 1 := Scalar.cmpi .eq c4_i32_132 c0_i32_133
  let c1_i32_134 : BitVec 32 := 1#32
  let v181 : BitVec 32 := Scalar.select v180 c1_i32_134 c4_i32_132
  let v182 : BitVec 32 := Scalar.remsi v179 v181
  let c0_i32_136 : BitVec 32 := 0#32
  let v184 : BitVec 1 := Scalar.cmpi .slt v182 c0_i32_136
  let c0_i32_137 : BitVec 32 := 0#32
  let v185 : BitVec 1 := Scalar.cmpi .slt v181 c0_i32_137
  let v186 : BitVec 1 := Scalar.xori v184 v185
  let c0_i32_135 : BitVec 32 := 0#32
  let v183 : BitVec 1 := Scalar.cmpi .ne v182 c0_i32_135
  let v187 : BitVec 1 := Scalar.andi v186 v183
  let v188 : BitVec 32 := Scalar.addi v182 v181
  let v189 : BitVec 32 := Scalar.select v187 v188 v182
  let c1_i32_170 : BitVec 32 := 1#32
  let v227 : BitVec 32 := Scalar.muli v189 c1_i32_170
  let v228 : BitVec 32 := Scalar.addi c0_i32_171 v227
  v228.toNat
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_176 : BitVec 32 := 1#32
  let v237 : BitVec 32 := Scalar.addi v2 c1_i32_176
  let c4_i32_177 : BitVec 32 := 4#32
  let c0_i32_178 : BitVec 32 := 0#32
  let v238 : BitVec 1 := Scalar.cmpi .eq c4_i32_177 c0_i32_178
  let c1_i32_179 : BitVec 32 := 1#32
  let v239 : BitVec 32 := Scalar.select v238 c1_i32_179 c4_i32_177
  let v240 : BitVec 32 := Scalar.remsi v237 v239
  let c0_i32_181 : BitVec 32 := 0#32
  let v242 : BitVec 1 := Scalar.cmpi .slt v240 c0_i32_181
  let c0_i32_182 : BitVec 32 := 0#32
  let v243 : BitVec 1 := Scalar.cmpi .slt v239 c0_i32_182
  let v244 : BitVec 1 := Scalar.xori v242 v243
  let c0_i32_180 : BitVec 32 := 0#32
  let v241 : BitVec 1 := Scalar.cmpi .ne v240 c0_i32_180
  let v245 : BitVec 1 := Scalar.andi v244 v241
  let v246 : BitVec 32 := Scalar.addi v240 v239
  let v247 : BitVec 32 := Scalar.select v245 v246 v240
  let c1_i32_215 : BitVec 32 := 1#32
  let v285 : BitVec 32 := Scalar.muli v247 c1_i32_215
  let v286 : BitVec 32 := Scalar.addi c0_i32_216 v285
  v286.toNat
def k0_dev8 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_221 : BitVec 32 := 3#32
  let v295 : BitVec 32 := Scalar.addi v2 c3_i32_221
  let c4_i32_222 : BitVec 32 := 4#32
  let c0_i32_223 : BitVec 32 := 0#32
  let v296 : BitVec 1 := Scalar.cmpi .eq c4_i32_222 c0_i32_223
  let c1_i32_224 : BitVec 32 := 1#32
  let v297 : BitVec 32 := Scalar.select v296 c1_i32_224 c4_i32_222
  let v298 : BitVec 32 := Scalar.remsi v295 v297
  let c0_i32_226 : BitVec 32 := 0#32
  let v300 : BitVec 1 := Scalar.cmpi .slt v298 c0_i32_226
  let c0_i32_227 : BitVec 32 := 0#32
  let v301 : BitVec 1 := Scalar.cmpi .slt v297 c0_i32_227
  let v302 : BitVec 1 := Scalar.xori v300 v301
  let c0_i32_225 : BitVec 32 := 0#32
  let v299 : BitVec 1 := Scalar.cmpi .ne v298 c0_i32_225
  let v303 : BitVec 1 := Scalar.andi v302 v299
  let v304 : BitVec 32 := Scalar.addi v298 v297
  let v305 : BitVec 32 := Scalar.select v303 v304 v298
  let c1_i32_260 : BitVec 32 := 1#32
  let v343 : BitVec 32 := Scalar.muli v305 c1_i32_260
  let v344 : BitVec 32 := Scalar.addi c0_i32_261 v343
  v344.toNat
def k0_dev9 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_266 : BitVec 32 := 3#32
  let v353 : BitVec 32 := Scalar.addi v2 c3_i32_266
  let c4_i32_267 : BitVec 32 := 4#32
  let c0_i32_268 : BitVec 32 := 0#32
  let v354 : BitVec 1 := Scalar.cmpi .eq c4_i32_267 c0_i32_268
  let c1_i32_269 : BitVec 32 := 1#32
  let v355 : BitVec 32 := Scalar.select v354 c1_i32_269 c4_i32_267
  let v356 : BitVec 32 := Scalar.remsi v353 v355
  let c0_i32_271 : BitVec 32 := 0#32
  let v358 : BitVec 1 := Scalar.cmpi .slt v356 c0_i32_271
  let c0_i32_272 : BitVec 32 := 0#32
  let v359 : BitVec 1 := Scalar.cmpi .slt v355 c0_i32_272
  let v360 : BitVec 1 := Scalar.xori v358 v359
  let c0_i32_270 : BitVec 32 := 0#32
  let v357 : BitVec 1 := Scalar.cmpi .ne v356 c0_i32_270
  let v361 : BitVec 1 := Scalar.andi v360 v357
  let v362 : BitVec 32 := Scalar.addi v356 v355
  let v363 : BitVec 32 := Scalar.select v361 v362 v356
  let c1_i32_304 : BitVec 32 := 1#32
  let v401 : BitVec 32 := Scalar.muli v363 c1_i32_304
  let v402 : BitVec 32 := Scalar.addi c0_i32_305 v401
  v402.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v453 : Index := Scalar.indexCast v2
  let c0_343 : Index := 0#32
  let c0_344 : Index := 0#32
  ![v453.toNat, 0, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v481 : Index := Scalar.indexCast v2
  let c0_364 : Index := 0#32
  let c256 : Index := 256#32
  ![v481.toNat, 0, 256]
def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_365 : BitVec 32 := 512#32
  let v485 : BitVec 32 := Scalar.muli v2 c512_i32_365
  let c0_i32_366 : BitVec 32 := 0#32
  ![v485.toNat, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_367 : BitVec 32 := 0#32
  let c0_i32_368 : BitVec 32 := 0#32
  ![v2.toNat, 0, 0]
def k0_off10 (d0 : Dev nD) (c1_i32_369 : BitVec 32) (c0_i32_377 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v491 : BitVec 32 := Scalar.addi v2 c1_i32_369
  let c4_i32_370 : BitVec 32 := 4#32
  let c0_i32_371 : BitVec 32 := 0#32
  let v492 : BitVec 1 := Scalar.cmpi .eq c4_i32_370 c0_i32_371
  let c1_i32_372 : BitVec 32 := 1#32
  let v493 : BitVec 32 := Scalar.select v492 c1_i32_372 c4_i32_370
  let v494 : BitVec 32 := Scalar.remsi v491 v493
  let c0_i32_374 : BitVec 32 := 0#32
  let v496 : BitVec 1 := Scalar.cmpi .slt v494 c0_i32_374
  let c0_i32_375 : BitVec 32 := 0#32
  let v497 : BitVec 1 := Scalar.cmpi .slt v493 c0_i32_375
  let v498 : BitVec 1 := Scalar.xori v496 v497
  let c0_i32_373 : BitVec 32 := 0#32
  let v495 : BitVec 1 := Scalar.cmpi .ne v494 c0_i32_373
  let v499 : BitVec 1 := Scalar.andi v498 v495
  let v500 : BitVec 32 := Scalar.addi v494 v493
  let v501 : BitVec 32 := Scalar.select v499 v500 v494
  let c2_i32_376 : BitVec 32 := 2#32
  let v502 : BitVec 32 := Scalar.muli v501 c2_i32_376
  let v503 : BitVec 32 := Scalar.addi v502 c0_i32_377
  ![v503.toNat]
def k0_off11 (d0 : Dev nD) (c1_i32_369 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v491 : BitVec 32 := Scalar.addi v2 c1_i32_369
  let c4_i32_370 : BitVec 32 := 4#32
  let c0_i32_371 : BitVec 32 := 0#32
  let v492 : BitVec 1 := Scalar.cmpi .eq c4_i32_370 c0_i32_371
  let c1_i32_372 : BitVec 32 := 1#32
  let v493 : BitVec 32 := Scalar.select v492 c1_i32_372 c4_i32_370
  let v494 : BitVec 32 := Scalar.remsi v491 v493
  let c0_i32_374 : BitVec 32 := 0#32
  let v496 : BitVec 1 := Scalar.cmpi .slt v494 c0_i32_374
  let c0_i32_375 : BitVec 32 := 0#32
  let v497 : BitVec 1 := Scalar.cmpi .slt v493 c0_i32_375
  let v498 : BitVec 1 := Scalar.xori v496 v497
  let c0_i32_373 : BitVec 32 := 0#32
  let v495 : BitVec 1 := Scalar.cmpi .ne v494 c0_i32_373
  let v499 : BitVec 1 := Scalar.andi v498 v495
  let v500 : BitVec 32 := Scalar.addi v494 v493
  let v501 : BitVec 32 := Scalar.select v499 v500 v494
  let c0_i32_382 : BitVec 32 := 0#32
  let c0_i32_383 : BitVec 32 := 0#32
  ![v501.toNat, 0, 0]
def k0_off12 (d0 : Dev nD) (c1_i32_369 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v491 : BitVec 32 := Scalar.addi v2 c1_i32_369
  let c4_i32_370 : BitVec 32 := 4#32
  let c0_i32_371 : BitVec 32 := 0#32
  let v492 : BitVec 1 := Scalar.cmpi .eq c4_i32_370 c0_i32_371
  let c1_i32_372 : BitVec 32 := 1#32
  let v493 : BitVec 32 := Scalar.select v492 c1_i32_372 c4_i32_370
  let v494 : BitVec 32 := Scalar.remsi v491 v493
  let c0_i32_374 : BitVec 32 := 0#32
  let v496 : BitVec 1 := Scalar.cmpi .slt v494 c0_i32_374
  let c0_i32_375 : BitVec 32 := 0#32
  let v497 : BitVec 1 := Scalar.cmpi .slt v493 c0_i32_375
  let v498 : BitVec 1 := Scalar.xori v496 v497
  let c0_i32_373 : BitVec 32 := 0#32
  let v495 : BitVec 1 := Scalar.cmpi .ne v494 c0_i32_373
  let v499 : BitVec 1 := Scalar.andi v498 v495
  let v500 : BitVec 32 := Scalar.addi v494 v493
  let v501 : BitVec 32 := Scalar.select v499 v500 v494
  let c0_i32_392 : BitVec 32 := 0#32
  let c256_i32_393 : BitVec 32 := 256#32
  ![v501.toNat, 0, 256]
def k0_off13 (d0 : Dev nD) (c1_i32_369 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v491 : BitVec 32 := Scalar.addi v2 c1_i32_369
  let c4_i32_370 : BitVec 32 := 4#32
  let c0_i32_371 : BitVec 32 := 0#32
  let v492 : BitVec 1 := Scalar.cmpi .eq c4_i32_370 c0_i32_371
  let c1_i32_372 : BitVec 32 := 1#32
  let v493 : BitVec 32 := Scalar.select v492 c1_i32_372 c4_i32_370
  let v494 : BitVec 32 := Scalar.remsi v491 v493
  let c0_i32_374 : BitVec 32 := 0#32
  let v496 : BitVec 1 := Scalar.cmpi .slt v494 c0_i32_374
  let c0_i32_375 : BitVec 32 := 0#32
  let v497 : BitVec 1 := Scalar.cmpi .slt v493 c0_i32_375
  let v498 : BitVec 1 := Scalar.xori v496 v497
  let c0_i32_373 : BitVec 32 := 0#32
  let v495 : BitVec 1 := Scalar.cmpi .ne v494 c0_i32_373
  let v499 : BitVec 1 := Scalar.andi v498 v495
  let v500 : BitVec 32 := Scalar.addi v494 v493
  let v501 : BitVec 32 := Scalar.select v499 v500 v494
  let v522 : Index := Scalar.indexCast v501
  let c0_396 : Index := 0#32
  let c0_397 : Index := 0#32
  ![v522.toNat, 0, 0]
def k0_off14 (d0 : Dev nD) (c1_i32_369 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v491 : BitVec 32 := Scalar.addi v2 c1_i32_369
  let c4_i32_370 : BitVec 32 := 4#32
  let c0_i32_371 : BitVec 32 := 0#32
  let v492 : BitVec 1 := Scalar.cmpi .eq c4_i32_370 c0_i32_371
  let c1_i32_372 : BitVec 32 := 1#32
  let v493 : BitVec 32 := Scalar.select v492 c1_i32_372 c4_i32_370
  let v494 : BitVec 32 := Scalar.remsi v491 v493
  let c0_i32_374 : BitVec 32 := 0#32
  let v496 : BitVec 1 := Scalar.cmpi .slt v494 c0_i32_374
  let c0_i32_375 : BitVec 32 := 0#32
  let v497 : BitVec 1 := Scalar.cmpi .slt v493 c0_i32_375
  let v498 : BitVec 1 := Scalar.xori v496 v497
  let c0_i32_373 : BitVec 32 := 0#32
  let v495 : BitVec 1 := Scalar.cmpi .ne v494 c0_i32_373
  let v499 : BitVec 1 := Scalar.andi v498 v495
  let v500 : BitVec 32 := Scalar.addi v494 v493
  let v501 : BitVec 32 := Scalar.select v499 v500 v494
  ![v501.toNat]
def k0_off15 (d0 : Dev nD) (c1_i32_369 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v491 : BitVec 32 := Scalar.addi v2 c1_i32_369
  let c4_i32_370 : BitVec 32 := 4#32
  let c0_i32_371 : BitVec 32 := 0#32
  let v492 : BitVec 1 := Scalar.cmpi .eq c4_i32_370 c0_i32_371
  let c1_i32_372 : BitVec 32 := 1#32
  let v493 : BitVec 32 := Scalar.select v492 c1_i32_372 c4_i32_370
  let v494 : BitVec 32 := Scalar.remsi v491 v493
  let c0_i32_374 : BitVec 32 := 0#32
  let v496 : BitVec 1 := Scalar.cmpi .slt v494 c0_i32_374
  let c0_i32_375 : BitVec 32 := 0#32
  let v497 : BitVec 1 := Scalar.cmpi .slt v493 c0_i32_375
  let v498 : BitVec 1 := Scalar.xori v496 v497
  let c0_i32_373 : BitVec 32 := 0#32
  let v495 : BitVec 1 := Scalar.cmpi .ne v494 c0_i32_373
  let v499 : BitVec 1 := Scalar.andi v498 v495
  let v500 : BitVec 32 := Scalar.addi v494 v493
  let v501 : BitVec 32 := Scalar.select v499 v500 v494
  let c512_i32_400 : BitVec 32 := 512#32
  let v530 : BitVec 32 := Scalar.muli v501 c512_i32_400
  let c0_i32_401 : BitVec 32 := 0#32
  ![v530.toNat, 0]
def k0_off16 (d0 : Dev nD) (c1_i32_369 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v491 : BitVec 32 := Scalar.addi v2 c1_i32_369
  let c4_i32_370 : BitVec 32 := 4#32
  let c0_i32_371 : BitVec 32 := 0#32
  let v492 : BitVec 1 := Scalar.cmpi .eq c4_i32_370 c0_i32_371
  let c1_i32_372 : BitVec 32 := 1#32
  let v493 : BitVec 32 := Scalar.select v492 c1_i32_372 c4_i32_370
  let v494 : BitVec 32 := Scalar.remsi v491 v493
  let c0_i32_374 : BitVec 32 := 0#32
  let v496 : BitVec 1 := Scalar.cmpi .slt v494 c0_i32_374
  let c0_i32_375 : BitVec 32 := 0#32
  let v497 : BitVec 1 := Scalar.cmpi .slt v493 c0_i32_375
  let v498 : BitVec 1 := Scalar.xori v496 v497
  let c0_i32_373 : BitVec 32 := 0#32
  let v495 : BitVec 1 := Scalar.cmpi .ne v494 c0_i32_373
  let v499 : BitVec 1 := Scalar.andi v498 v495
  let v500 : BitVec 32 := Scalar.addi v494 v493
  let v501 : BitVec 32 := Scalar.select v499 v500 v494
  let c0_i32_402 : BitVec 32 := 0#32
  let c0_i32_403 : BitVec 32 := 0#32
  ![v501.toNat, 0, 0]
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdeal.Names.lean ====
/-
# The kernel's buffers, slots and semaphores by name

Every buffer of the kernel is cut into slots.
This module names the slots and the semaphores by device and half, and shows that the kernel's own spelling of each
(offsets computed in 32-bit words from the device's number) is the named one.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Talk

open Cert.KernelIdeal Cert.KernelIdeal.Gen
open Idealize.ShloMosaic Idealize.ShloMosaic.TcCoe

/-! ## Peers -/

set_option backward.proofsInPublic true in
/-- The device `r` steps after `c` on the ring of four. -/
def step (c : Dev nD) (r : Fin 4) : Dev nD := ⟨(c.val + r.val) % 4, Nat.mod_lt _ (by decide)⟩

/-- How many steps ahead the device is for which chunk `t` of the products is computed. -/
def hop (t : Fin 8) : Fin 4 := ![2, 2, 1, 1, 3, 3, 0, 0] t
/-- Which half of the columns chunk `t` is. -/
def half (t : Fin 8) : Fin 2 := ![0, 1, 0, 1, 0, 1, 0, 1] t
/-- The six chunks that are sent, among the eight. -/
def ch (t : Fin 6) : Fin 8 := t.castLE (by decide)

theorem step_zero (c : Dev nD) : step c 0 = c := by revert c; decide
theorem step_inj (c : Dev nD) (r r' : Fin 4) (h : step c r = step c r') : r = r' := by revert c r r'; decide
/-- How far `c` is behind `d`. -/
def dist (c d : Dev nD) : Fin 4 := ⟨(d.val + 4 - c.val) % 4, Nat.mod_lt _ (by decide)⟩
theorem step_dist (c d : Dev nD) : step c (dist c d) = d := by revert c d; decide
theorem dist_step (c : Dev nD) (r : Fin 4) : dist c (step c r) = r := by revert c r; decide

theorem dev1_eq (c : Dev nD) : (⟨k0_dev1 c, k0_dev1_lt c⟩ : Dev nD) = step c 1 := by revert c; decide +kernel
theorem dev2_eq (c : Dev nD) : (⟨k0_dev2 c, k0_dev2_lt c⟩ : Dev nD) = step c 2 := by revert c; decide +kernel
theorem dev3_eq (c : Dev nD) : (⟨k0_dev3 c, k0_dev3_lt c⟩ : Dev nD) = step c 3 := by revert c; decide +kernel
theorem dev4_eq (c : Dev nD) : (⟨k0_dev4 c, k0_dev4_lt c⟩ : Dev nD) = step c 2 := by revert c; decide +kernel
theorem dev5_eq (c : Dev nD) : (⟨k0_dev5 c, k0_dev5_lt c⟩ : Dev nD) = step c 2 := by revert c; decide +kernel
theorem dev6_eq (c : Dev nD) : (⟨k0_dev6 c, k0_dev6_lt c⟩ : Dev nD) = step c 1 := by revert c; decide +kernel
theorem dev7_eq (c : Dev nD) : (⟨k0_dev7 c, k0_dev7_lt c⟩ : Dev nD) = step c 1 := by revert c; decide +kernel
theorem dev8_eq (c : Dev nD) : (⟨k0_dev8 c, k0_dev8_lt c⟩ : Dev nD) = step c 3 := by revert c; decide +kernel
theorem dev9_eq (c : Dev nD) : (⟨k0_dev9 c, k0_dev9_lt c⟩ : Dev nD) = step c 3 := by revert c; decide +kernel

/-! ## Semaphores -/

/-- The runtime's barrier semaphore. -/
abbrev barS : Sem sig := (SemArray.scalar (sig.barrier 0 rfl) : Sems sig S_).sem
/-- The semaphore of the copy of `x`, -/
def xS : DmaSem sig := ⟨0, by decide⟩
/-- of the copies into slot `i` of the weights' buffer, -/
def wS (i : Fin 2) : DmaSem sig := ⟨1 + i.val, by revert i; decide⟩
/-- of the sending end of chunk `t`, -/
def sendS (t : Fin 6) : DmaSem sig := ⟨3 + t.val, by revert t; decide⟩
/-- of the receiving end of half `h` of the block from device `s`, -/
def recvS (s : Dev nD) (h : Fin 2) : DmaSem sig := ⟨9 + (2 * s.val + h.val), by revert s h; decide⟩
/-- and of the copy of row block `s` to the result. -/
def outS (s : Dev nD) : DmaSem sig := ⟨17 + s.val, by revert s; decide⟩

/-! The kernel's spellings of the semaphores. -/

theorem xS_eq : (cc0_scratch5 : DmaSems sig S_).sem = xS := rfl
theorem wS_of {off : Fin 1 → Nat} {i : Fin 2} (h : off = ![i.val]) {inb : ∀ a, off a + S1.size a ≤ S2.size a} :
    ((cc0_scratch6.slice (Rect.unit (s := S2) off S1.size inb)).squeeze S_ squeezes_S1_S_).sem = wS i := by
  subst h; revert i; decide
theorem sendS_of {off : Fin 1 → Nat} {t : Fin 6} (h : off = ![t.val]) {inb : ∀ a, off a + S1.size a ≤ S6.size a} :
    ((cc0_scratch7.slice (Rect.unit (s := S6) off S1.size inb)).squeeze S_ squeezes_S1_S_).sem = sendS t := by
  subst h; revert t; decide
theorem recvS_of {off : Fin 1 → Nat} {s : Dev nD} {i : Fin 2} (h : off = ![2 * s.val + i.val]) {inb : ∀ a, off a + S1.size a ≤ S8.size a} :
    ((cc0_scratch8.slice (Rect.unit (s := S8) off S1.size inb)).squeeze S_ squeezes_S1_S_).sem = recvS s i := by
  subst h; revert s i; decide
theorem outS_of {off : Fin 1 → Nat} {s : Dev nD} (h : off = ![s.val]) {inb : ∀ a, off a + S1.size a ≤ S4.size a} :
    ((cc0_scratch9.slice (Rect.unit (s := S4) off S1.size inb)).squeeze S_ squeezes_S1_S_).sem = outS s := by
  subst h; revert s; decide

/-! ## Offsets in closed form -/

theorem off1_eq : ∀ (c : Dev nD) (r : Fin 4) (h : Fin 2),
    k0_off1 c (BitVec.ofNat 32 r.val) (BitVec.ofNat 32 (256 * h.val)) = ![0, 512 * (step c r).val + 256 * h.val] := by decide +kernel
theorem off10_eq : ∀ (c : Dev nD) (r : Fin 3) (h : Fin 2),
    k0_off10 c (BitVec.ofNat 32 (1 + r.val)) (BitVec.ofNat 32 h.val) = ![2 * (step c r.succ).val + h.val] := by decide +kernel
theorem off11_eq : ∀ (c : Dev nD) (r : Fin 3), k0_off11 c (BitVec.ofNat 32 (1 + r.val)) = ![(step c r.succ).val, 0, 0] := by decide +kernel
theorem off12_eq : ∀ (c : Dev nD) (r : Fin 3), k0_off12 c (BitVec.ofNat 32 (1 + r.val)) = ![(step c r.succ).val, 0, 256] := by decide +kernel
theorem off13_eq : ∀ (c : Dev nD) (r : Fin 3), k0_off13 c (BitVec.ofNat 32 (1 + r.val)) = ![(step c r.succ).val, 0, 0] := by decide +kernel
theorem off14_eq : ∀ (c : Dev nD) (r : Fin 3), k0_off14 c (BitVec.ofNat 32 (1 + r.val)) = ![(step c r.succ).val] := by decide +kernel
theorem off15_eq : ∀ (c : Dev nD) (r : Fin 3), k0_off15 c (BitVec.ofNat 32 (1 + r.val)) = ![512 * (step c r.succ).val, 0] := by decide +kernel
theorem off16_eq : ∀ (c : Dev nD) (r : Fin 3), k0_off16 c (BitVec.ofNat 32 (1 + r.val)) = ![(step c r.succ).val, 0, 0] := by decide +kernel

/-! ## Slots -/

abbrev aM : Memref sig .tc .hbm S512x2048 .f32 := Memref.whole main_arg0
abbrev bM : Memref sig .tc .hbm S2048x2048 .f32 := Memref.whole main_arg1
abbrev oM : Memref sig .tc .hbm S2048x512 .f32 := Memref.whole main_v1
abbrev xM : Memref sig .tc .vmem S512x2048 .f32 := Memref.whole cc0_scratch0
abbrev wM : Memref sig .tc .vmem S2x2048x256 .f32 := Memref.whole cc0_scratch1
abbrev sM : Memref sig .tc .vmem S6x512x256 .bf16 := Memref.whole cc0_scratch2
abbrev rM : Memref sig .tc .vmem S4x512x512 .bf16 := Memref.whole cc0_scratch3
abbrev gM : Memref sig .tc .vmem S4x512x512 .f32 := Memref.whole cc0_scratch4

theorem win_inb (d : Dev nD) (h : Fin 2) : ∀ a, (![0, 512 * d.val + 256 * h.val] : Fin 2 → Nat) a + S2048x256.size a ≤ S2048x2048.size a := by
  revert d h; decide
theorem wslot_inb (i : Fin 2) : ∀ a, (![i.val, 0, 0] : Fin 3 → Nat) a + S1x2048x256.size a ≤ S2x2048x256.size a := by revert i; decide
theorem sslot_inb (t : Fin 6) : ∀ a, (![t.val, 0, 0] : Fin 3 → Nat) a + S1x512x256.size a ≤ S6x512x256.size a := by revert t; decide
theorem part_inb (s : Dev nD) (h : Fin 2) : ∀ a, (![s.val, 0, 256 * h.val] : Fin 3 → Nat) a + S1x512x256.size a ≤ S4x512x512.size a := by
  revert s h; decide
theorem slot_inb (s : Dev nD) : ∀ a, (![s.val, 0, 0] : Fin 3 → Nat) a + S1x512x512.size a ≤ S4x512x512.size a := by revert s; decide
theorem rows_inb (s : Dev nD) : ∀ a, (![512 * s.val, 0] : Fin 2 → Nat) a + S512x512.size a ≤ S2048x512.size a := by revert s; decide

abbrev winR (d : Dev nD) (h : Fin 2) : Rect S2048x2048 := Rect.unit (s := S2048x2048) ![0, 512 * d.val + 256 * h.val] S2048x256.size (win_inb d h)
abbrev wslotR (i : Fin 2) : Rect S2x2048x256 := Rect.unit (s := S2x2048x256) ![i.val, 0, 0] S1x2048x256.size (wslot_inb i)
abbrev sslotR (t : Fin 6) : Rect S6x512x256 := Rect.unit (s := S6x512x256) ![t.val, 0, 0] S1x512x256.size (sslot_inb t)
abbrev partR (s : Dev nD) (h : Fin 2) : Rect S4x512x512 := Rect.unit (s := S4x512x512) ![s.val, 0, 256 * h.val] S1x512x256.size (part_inb s h)
abbrev slotR (s : Dev nD) : Rect S4x512x512 := Rect.unit (s := S4x512x512) ![s.val, 0, 0] S1x512x512.size (slot_inb s)
abbrev rowsR (s : Dev nD) : Rect S2048x512 := Rect.unit (s := S2048x512) ![512 * s.val, 0] S512x512.size (rows_inb s)

/-- The columns of the weights that make half `h` of device `d`'s block. -/
def win (d : Dev nD) (h : Fin 2) : Memref sig .tc .hbm S2048x256 .f32 := bM.slice (winR d h) (fun _ => rfl)
/-- Slot `i` of the weights' buffer. -/
def wslot (i : Fin 2) : Memref sig .tc .vmem S2048x256 .f32 := (wM.slice (wslotR i) (fun _ => rfl)).squeeze S2048x256 squeezes_S1x2048x256_S2048x256
/-- Slot `t` of the buffer of products to be sent. -/
def sslot (t : Fin 6) : Memref sig .tc .vmem S512x256 .bf16 := (sM.slice (sslotR t) (fun _ => rfl)).squeeze S512x256 squeezes_S1x512x256_S512x256
/-- Slot `s` of a buffer of four blocks, -/
def slot {e : EltTy} (M : Memref sig .tc .vmem S4x512x512 e) (s : Dev nD) : Memref sig .tc .vmem S512x512 e :=
  (M.slice (slotR s) (fun _ => rfl)).squeeze S512x512 squeezes_S1x512x512_S512x512
/-- and half `h` of its columns. -/
def part {e : EltTy} (M : Memref sig .tc .vmem S4x512x512 e) (s : Dev nD) (h : Fin 2) : Memref sig .tc .vmem S512x256 e :=
  (M.slice (partR s h) (fun _ => rfl)).squeeze S512x256 squeezes_S1x512x256_S512x256
/-- Half `h` of the slot in which the block from device `s` lands. -/
abbrev rpart (s : Dev nD) (h : Fin 2) : Memref sig .tc .vmem S512x256 .bf16 := part rM s h
/-- The stage's slot `s`, whole. -/
abbrev gslot (s : Dev nD) : Memref sig .tc .vmem S512x512 .f32 := slot gM s
/-- Row block `s` of the result. -/
def orows (s : Dev nD) : Memref sig .tc .hbm S512x512 .f32 := oM.slice (rowsR s) (fun _ => rfl)

/-! The kernel's spellings of the slots. -/

theorem win_of {off : Fin 2 → Nat} {d : Dev nD} {i : Fin 2} (h : off = ![0, 512 * d.val + 256 * i.val])
    {inb : ∀ a, off a + S2048x256.size a ≤ S2048x2048.size a} :
    bM.slice (Rect.unit (s := S2048x2048) off S2048x256.size inb) (fun _ => rfl) = win d i := by subst h; rfl
theorem wslot_of {off : Fin 3 → Nat} {i : Fin 2} (h : off = ![i.val, 0, 0]) {inb : ∀ a, off a + S1x2048x256.size a ≤ S2x2048x256.size a} :
    (wM.slice (Rect.unit (s := S2x2048x256) off S1x2048x256.size inb) (fun _ => rfl)).squeeze S2048x256 squeezes_S1x2048x256_S2048x256 = wslot i := by
  subst h; rfl
theorem sslot_of {off : Fin 3 → Nat} {t : Fin 6} (h : off = ![t.val, 0, 0]) {inb : ∀ a, off a + S1x512x256.size a ≤ S6x512x256.size a} :
    (sM.slice (Rect.unit (s := S6x512x256) off S1x512x256.size inb) (fun _ => rfl)).squeeze S512x256 squeezes_S1x512x256_S512x256 = sslot t := by
  subst h; rfl
theorem part_of {e : EltTy} {M : Memref sig .tc .vmem S4x512x512 e} {off : Fin 3 → Nat} {s : Dev nD} {i : Fin 2} (h : off = ![s.val, 0, 256 * i.val])
    {inb : ∀ a, off a + S1x512x256.size a ≤ S4x512x512.size a} :
    (M.slice (Rect.unit (s := S4x512x512) off S1x512x256.size inb) (fun _ => rfl)).squeeze S512x256 squeezes_S1x512x256_S512x256 = part M s i := by
  subst h; rfl
theorem slot_of {e : EltTy} {M : Memref sig .tc .vmem S4x512x512 e} {off : Fin 3 → Nat} {s : Dev nD} (h : off = ![s.val, 0, 0])
    {inb : ∀ a, off a + S1x512x512.size a ≤ S4x512x512.size a} :
    (M.slice (Rect.unit (s := S4x512x512) off S1x512x512.size inb) (fun _ => rfl)).squeeze S512x512 squeezes_S1x512x512_S512x512 = slot M s := by
  subst h; rfl
theorem orows_of {off : Fin 2 → Nat} {s : Dev nD} (h : off = ![512 * s.val, 0]) {inb : ∀ a, off a + S512x512.size a ≤ S2048x512.size a} :
    oM.slice (Rect.unit (s := S2048x512) off S512x512.size inb) (fun _ => rfl) = orows s := by subst h; rfl

end Cert.KernelIdeal.Talk

end
-- ==== Proof.KernelIdeal.Steps.lean ====
/-
# One rule per statement of the kernel

The kernel's statements are local copies and their waits, loads and stores of a slot, a transfer to a peer, and waits.
Each has one rule here, stated for any slot: a slot is owned at what is read through it (`owns`).
-/
module

public import proofs.«01_k».proof.Proof.KernelIdeal.Names
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The algebra: the pipeline's rounds, the talk's rounds (a duty is named by the device that pays it), the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb
instance EC_landsIn : (EC : UEmb Counters 𝕄).LandsIn (upEmb : UEmb _ 𝕄) := by unfold EC countersEmb; infer_instance

abbrev 𝒱₀ : Variants := Variants.none

/-- What is to be shown of a program run by device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owns the slot and reads `X` through it. -/
abbrev own (c : Dev nD) {sp : Space} {s : Shape} {e : EltTy} (v : Memref sig .tc sp s e) (X : s.Idx → Elt F e) : sProp 𝕄 :=
  owns (c : Thread nD τ) v fullShare X
/-- Device `c` owns the slot, whatever it reads. -/
abbrev ownAny (c : Dev nD) {sp : Space} {s : Shape} {e : EltTy} (v : Memref sig .tc sp s e) : sProp 𝕄 := iprop(∃ X, own c v X)

/-- Device `c` owes `O`. -/
abbrev Owes (c : Dev nD) (O : CellTallies nD τ sig Unit) : sProp 𝕄 := iprop(∃ W, owes (c : Thread nD τ) O W)

abbrev barCell (c : Dev nD) : GSem nD τ sig := ((c : Thread nD τ), .reg barS)
abbrev sendCell (c : Dev nD) (t : Fin 6) : GSem nD τ sig := ((c : Thread nD τ), .dma (sendS t))
abbrev recvCell (d s : Dev nD) (h : Fin 2) : GSem nD τ sig := ((d : Thread nD τ), .dma (recvS s h))

/-- The receiving semaphores. -/
def IsRecv (sm : SemLoc sig) : Prop := ∃ s h, sm = .dma (recvS s h)
instance (sm : SemLoc sig) : Decidable (IsRecv sm) := by unfold IsRecv; infer_instance

/-- Tokens are dealt on the TensorCores' cells only. -/
def L (g : GSem nD τ sig) : Finset Unit := if g.1.2 = .tc then {()} else ∅
/-- The levels: a device may wait at the barrier while it owes arrivals, and for its own copies while it owes either. -/
def lv (g : GSem nD τ sig) (_ : Unit) : ℕ := if g.2 = .reg barS then 1 else if IsRecv g.2 then 2 else 0

theorem L_tc (c : Dev nD) (sm : SemLoc sig) : L ((c : Thread nD τ), sm) = {()} := if_pos rfl
theorem L_of_ne (g : GSem nD τ sig) (h : g.1.2 ≠ .tc) : L g = ∅ := if_neg h

/-- What a device owes is arrivals only. -/
def Arrivals (O : CellTallies nD τ sig Unit) : Prop := ∀ g u, 0 < O g u → g.1.2 = .tc ∧ IsRecv g.2

omit [FloatOps F] in
/-- A device that owes arrivals only may wait on any semaphore that is no receiving one. -/
theorem mayWait_of (c : Dev nD) (sm : SemLoc sig) (hsm : ¬ IsRecv sm) (O : CellTallies nD τ sig Unit) (hO : Arrivals O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by rw [show L g = {()} from if_pos (hO g u hg).1]; exact Finset.mem_singleton_self _)
    (fun p hp => by
      rw [Finset.mem_singleton.mp hp]; dsimp only [lv]
      split
      · exact le_refl _
      · first | (rw [if_neg hsm]; decide) | decide)
    (fun g u hg => by
      have h := (hO g u hg).2
      dsimp only [lv]
      rw [if_neg (by rintro h'; rw [h'] at h; obtain ⟨s, i, hs⟩ := h; cases hs), if_pos h]; decide)

theorem arrivals_zero : Arrivals (0 : CellTallies nD τ sig Unit) := fun _ _ h => absurd h (Nat.lt_irrefl 0)

/-! ## Local copies -/

section Rules
variable (c : Dev nD) {α : Type} {Q : α → sProp (MT nD τ sig Unit (Elt F) ℕ UU ℕ)} {k : PUnit → Prog (TpuEff nD τ sig (Elt F) Λ₀ .tc) α}

/-- What a local copy of `X` in flight delivers: the target reading `X`, and the source back. -/
abbrev Copying {sp sp' : Space} {s : Shape} {e : EltTy} (src : Memref sig .tc sp s e) (dst : Memref sig .tc sp' s e) (sem : DmaSem sig)
    (X : s.Idx → Elt F e) : sProp 𝕄 :=
  Flight EC (c : Thread nD τ) (.dma sem) () dst.view.dmaCredit iprop(own c dst X ∗ own c src X)

/-- A local copy of whatever the source reads is started on a semaphore at zero. -/
theorem copy_start {sp sp' : Space} {s : Shape} {e : EltTy} (src : Memref sig .tc sp s e) (dst : Memref sig .tc sp' s e) (sem : DmaSem sig)
    {src' : Memref sig .tc sp s e} {dst' : Memref sig .tc sp' s e} {sem' : DmaSem sig}
    {hsrc : src'.view.WordExact} {hdst : dst'.view.WordExact}
    {hsem : DmaTarget.Typed (nD := nD) sp (.dma sem') (DmaTarget.here (p := (Proc.tc : Proc τ)) dst')}
    {X : s.Idx → Elt F e} (hN0 : 0 < s.numel) (hs : src' = src) (hd : dst' = dst) (hm : sem' = sem) :
    iprop(own c src X ∗ ownAny c dst ∗ semVal ((c : Thread nD τ), .dma sem) 0)
      ⊢ iprop((Copying c src dst sem X -∗ WP c (k ⟨⟩) Q)
          -∗ WP c (.op (.enqueueDma src' (.here dst') (.dma sem') hsrc hdst hsem) k) Q) := by
  subst hs hd hm
  unfold ownAny own owns
  iintro ⟨⟨%fs, %hX, Hs⟩, ⟨%_, %fd, -, Hd⟩, Hv⟩ Hk
  subst hX
  iapply (wp_dmaLocal EC 𝒱₀ (c : Thread nD τ) none (via := .same) (sm := .dma sem') () dst'.view.dmaCredit rfl
    (View.dmaCredit_pos _ hN0) (fd := fd) (Finset.Subset.refl _)) $$ [Hs Hd Hv]
  · isplitl [Hs]; · iexact Hs
    isplitl [Hd] <;> iassumption
  iintro HF
  iapply Hk
  iapply (Flight_mono EC (c : Thread nD τ) (D := iprop((dst'.view.loc (c : Thread nD τ) ↦[dst'.view.set]{fullShare} (dst'.view.write (Elt F) fd (src'.view.read (Elt F) fs) Finset.univ))
    ∗ (src'.view.loc (c : Thread nD τ) ↦[src'.view.set]{fullShare} fs))) ?_) $$ HF
  unfold own owns
  iintro ⟨Hd, Hs⟩
  isplitl [Hd]
  · iexists _; isplitr; rotate_left
    · iexact Hd
    · ipureintro; exact View.read_write_univ _ _
  · iexists fs; isplitr
    · ipureintro; rfl
    · iexact Hs

/-- Its wait, while arrivals are owed. -/
theorem copy_wait {sp sp' sp₁ sp₂ : Space} {s : Shape} {e : EltTy} {s' : Shape} {e' : EltTy} (src : Memref sig .tc sp s e) (dst : Memref sig .tc sp' s e) (sem : DmaSem sig)
    {src' : Memref sig .tc sp₁ s' e'} {dst' : Memref sig .tc sp₂ s' e'} {sem' : DmaSem sig}
    {hsrc : src'.view.WordExact} {hdst : dst'.view.WordExact} {X : s.Idx → Elt F e} {O : CellTallies nD τ sig Unit}
    (hsm : ¬ IsRecv (.dma sem)) (hO : Arrivals O) (hm : sem' = sem) (hN : dst'.view.dmaCredit = dst.view.dmaCredit) :
    iprop(levAts L lv ∗ Copying c src dst sem X ∗ Owes c O)
      ⊢ iprop((iprop((own c dst X ∗ own c src X) ∗ semVal ((c : Thread nD τ), .dma sem) 0 ∗ Owes c O) -∗ WP c (k ⟨⟩) Q)
          -∗ WP c (.op (.waitDma2 sem' src' dst' hsrc hdst) k) Q) := by
  subst hm
  iintro ⟨#Hlev, HF, ⟨%W, HO⟩⟩ Hk
  iapply (wp_waitLocalO EC 𝒱₀ (c : Thread nD τ) none () hN (O := O)) $$ [HF HO]
  · isplitl [HF]; · iexact HF
    isplitl [HO]; · iexact HO
    iapply (mayWait_of c _ hsm O hO); iexact Hlev
  iintro ⟨HD, Hv, HO⟩
  iapply Hk
  isplitl [HD]; · iexact HD
  isplitl [Hv]; · iexact Hv
  iexists _; iexact HO

/-! ## Loads and stores of a slot -/

/-- A slot owned at `X` is, unsqueezed, the slice owned at `X` cast to the slice's shape. -/
theorem own_squeeze {sp : Space} {s s' : Shape} {e : EltTy} (m : Memref sig .tc sp s e) (hq : s.Squeezes s') (X : s'.Idx → Elt F e) :
    own c (m.squeeze s' hq) X = own c m (shapeCast s X hq.numel_eq.symm) := by
  have hr (f : m.view.ty.Contents (Elt F)) :
      ((m.squeeze s' hq).view.read (Elt F) f = X) = (m.view.read (Elt F) f = shapeCast s X hq.numel_eq.symm) := by
    have e₁ : (m.squeeze s' hq).view.read (Elt F) f = shapeCast s' (m.view.read (Elt F) f) hq.numel_eq := rfl
    rw [e₁, eq_iff_iff]
    constructor
    · intro h; rw [← h, shapeCast_shapeCast]
    · intro h; rw [h, shapeCast_shapeCast]
  unfold own owns
  simp only [Memref.view_squeeze, View.set_reshape] at hr ⊢
  simp only [hr]

/-- A load of a slice yields what is read, -/
theorem load_slice {s : Shape} {e : EltTy} {m : Memref sig .tc .vmem s e} {r : Rect s} (hr : ∀ a, r.stride a = 1)
    {hl : m.view.LoadsAt r.toLoadRect} {X : r.shape.Idx → Elt F e} {k : (r.shape.Idx → Elt F e) → Prog (TpuEff nD τ sig (Elt F) Λ₀ .tc) α} :
    own c (m.slice r hr) X ⊢ iprop((own c (m.slice r hr) X -∗ WP c (k X) Q) -∗ WP c (.op (.load m r.toLoadRect hl) k) Q) := by
  unfold own owns
  iintro ⟨%f, %hf, H⟩ Hk
  subst hf
  iapply (wp_load_rect 𝒱₀ (c : Thread nD τ) none Set.univ (m := m) (r := r) (f := f) (Finset.Subset.refl _)) $$ H
  iintro H
  iapply Hk
  iexists f
  isplitr
  · ipureintro; rfl
  · iexact H

/-- and a store through it makes it read what is stored. -/
theorem store_slice {s : Shape} {e : EltTy} {m : Memref sig .tc .vmem s e} {r : Rect s} (hr : ∀ a, r.stride a = 1)
    {w : r.shape.Idx → Elt F e} {hst : (m.access r).Stores Finset.univ} {hx : (Finset.univ : Finset r.shape.Idx) = Finset.univ ∨ ∀ a, r.stride a = 1} :
    ownAny c (m.slice r hr) ⊢ iprop((own c (m.slice r hr) w -∗ WP c (k ⟨⟩) Q) -∗ WP c (.op (.store m r w Finset.univ hst hx) k) Q) := by
  unfold ownAny own owns
  iintro ⟨%_, %f, -, H⟩ Hk
  iapply (wp_store 𝒱₀ (c : Thread nD τ) none Set.univ (m := m) (r := r) (f := f) (Mk := Finset.univ)
    (S := (m.slice r hr).view.set) (View.setOn_subset_set _ _)) $$ H
  iintro H
  iapply Hk
  iexists _
  isplitr; rotate_left
  · iexact H
  · ipureintro; exact View.read_write_univ _ _

/-- A load at the rectangle of a slot yields what the slot reads, at the rectangle's shape. -/
theorem load_slot {s s' : Shape} {e : EltTy} {m : Memref sig .tc .vmem s e} {r : Rect s} (hr : ∀ a, r.stride a = 1) (hq : r.shape.Squeezes s')
    (v : Memref sig .tc .vmem s' e) (hv : (m.slice r hr).squeeze s' hq = v)
    {hl : m.view.LoadsAt r.toLoadRect} {X : s'.Idx → Elt F e} {k : (r.shape.Idx → Elt F e) → Prog (TpuEff nD τ sig (Elt F) Λ₀ .tc) α} :
    own c v X ⊢ iprop((own c v X -∗ WP c (k (shapeCast r.shape X hq.numel_eq.symm)) Q) -∗ WP c (.op (.load m r.toLoadRect hl) k) Q) := by
  subst hv
  rw [own_squeeze]
  exact load_slice c hr

/-- A load whose value nothing reads. -/
theorem load_dead {s s' : Shape} {e : EltTy} {m : Memref sig .tc .vmem s e} {r : Rect s} (hr : ∀ a, r.stride a = 1) (hq : r.shape.Squeezes s')
    (v : Memref sig .tc .vmem s' e) (hv : (m.slice r hr).squeeze s' hq = v)
    {hl : m.view.LoadsAt r.toLoadRect} {k : (r.shape.Idx → Elt F e) → Prog (TpuEff nD τ sig (Elt F) Λ₀ .tc) α} :
    ownAny c v ⊢ iprop((∀ x, ownAny c v -∗ WP c (k x) Q) -∗ WP c (.op (.load m r.toLoadRect hl) k) Q) := by
  iintro ⟨%X, H⟩ Hk
  iapply (load_slot c hr hq v hv) $$ H
  iintro H
  iapply Hk
  iexists X; iexact H

/-- A store at the rectangle of a slot makes the slot read what is stored, at the slot's shape. -/
theorem store_slot {s s' : Shape} {e : EltTy} {m : Memref sig .tc .vmem s e} {r : Rect s} (hr : ∀ a, r.stride a = 1) (hq : r.shape.Squeezes s')
    (v : Memref sig .tc .vmem s' e) (hv : (m.slice r hr).squeeze s' hq = v) (X : s'.Idx → Elt F e)
    {w : r.shape.Idx → Elt F e} {hst : (m.access r).Stores Finset.univ} {hx : (Finset.univ : Finset r.shape.Idx) = Finset.univ ∨ ∀ a, r.stride a = 1} (hw : w = shapeCast r.shape X hq.numel_eq.symm) :
    ownAny c v ⊢ iprop((own c v X -∗ WP c (k ⟨⟩) Q) -∗ WP c (.op (.store m r w Finset.univ hst hx) k) Q) := by
  subst hv hw
  unfold ownAny
  simp only [own_squeeze]
  iintro ⟨%Y, H⟩ Hk
  iapply (store_slice c hr) $$ [H]
  · iexists _; iexact H
  iexact Hk

end Rules

end Cert.KernelIdeal.Talk

end
-- ==== Proof.KernelIdeal.Slots.lean ====
/-
# Buffers cut into slots, and put together again

A buffer owned whole is its slots owned one by one, and a slot of the landing and staging buffers is its two halves.
-/
module

public import proofs.«01_k».proof.Proof.KernelIdeal.Steps
public import Idealize.ShloMosaic.Lib.Ring
public import Idealize.ShloMosaic.Lib.ValueLayout

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Slices of a buffer -/

section Family
variable (c : Dev nD) {sp : Space} {s : Shape} {e : EltTy} (m : Memref sig .tc sp s e)
  {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

/-- A buffer owned is its slices owned, -/
theorem any_split : (ownAny c m : sProp 𝕄) ⊢ bigSep Finset.univ fun t => ownAny c (m.slice (r t) (hr t)) := by
  iintro ⟨%X, H⟩
  ihave H := (owns_rects (c : Thread nD τ) m fullShare r hr hd hcov X) $$ H
  have h₀ (t : T) : own c (m.slice (r t) (hr t)) (fun j => X ((r t).emb j)) ⊢ (ownAny c (m.slice (r t) (hr t)) : sProp 𝕄) := by
    iintro H; iexists _; iexact H
  have h₁ : bigSep Finset.univ (fun t => own c (m.slice (r t) (hr t)) fun j => X ((r t).emb j))
      ⊢ (bigSep Finset.univ fun t => ownAny c (m.slice (r t) (hr t)) : sProp 𝕄) := bigSep_mono fun t _ => h₀ t
  iapply h₁ $$ H

/-- its slices owned are it owned, -/
theorem any_join [∀ e, Nonempty (Elt F e)] : bigSep Finset.univ (fun t => ownAny c (m.slice (r t) (hr t))) ⊢ (ownAny c m : sProp 𝕄) := by
  have hset : m.view.set = (Finset.univ : Finset T).biUnion fun t => (m.view.slice (r t)).set := by
    ext i
    simp only [Finset.mem_biUnion, Finset.mem_univ, true_and, View.set_slice]
    constructor
    · intro hi
      obtain ⟨x, -, rfl⟩ := Finset.mem_map.mp hi
      obtain ⟨t, -, hx⟩ := Finset.mem_biUnion.mp (hcov.symm ▸ Finset.mem_univ x)
      exact ⟨t, Finset.mem_map_of_mem _ hx⟩
    · rintro ⟨t, hi⟩
      obtain ⟨x, -, rfl⟩ := Finset.mem_map.mp hi
      exact Finset.mem_map_of_mem _ (Finset.mem_univ x)
  have h₀ (t : T) : ownAny c (m.slice (r t) (hr t))
      ⊢ (iprop(∃ f, m.view.loc (c : Thread nD τ) ↦[(m.view.slice (r t)).set]{fullShare} f) : sProp 𝕄) := by
    unfold ownAny own owns
    iintro ⟨%X, %f, -, H⟩
    iexists f; iexact H
  have h₁ : bigSep Finset.univ (fun t => ownAny c (m.slice (r t) (hr t)))
      ⊢ (bigSep Finset.univ fun t => iprop(∃ f, m.view.loc (c : Thread nD τ) ↦[(m.view.slice (r t)).set]{fullShare} f) : sProp 𝕄) :=
    bigSep_mono fun t _ => h₀ t
  refine h₁.trans ((bigSep_exists_pi (Finset.univ : Finset T)
    (fun t (f : Buf (Elt F) (m.view.loc (c : Thread nD τ))) => iprop(m.view.loc (c : Thread nD τ) ↦[(m.view.slice (r t)).set]{fullShare} f))).trans ?_)
  iintro ⟨%fs, H⟩
  ihave H := (pointsTo_biUnion_join (Finset.univ : Finset T) (fun t => (m.view.slice (r t)).set) fs (fun _ => Classical.arbitrary _)
    (fun t _ t' _ htt => by
      rw [View.set_slice, View.set_slice]; exact (Finset.disjoint_map _).mpr (hd t t' htt))) $$ H
  icases H with ⟨%g, -, H⟩
  rw [← hset]
  iexists _
  iapply (owns_intro (c : Thread nD τ) m fullShare g) $$ H

/-- and its slices reading parts of one function are it reading the function. -/
theorem own_join [∀ e, Nonempty (Elt F e)] (X : ∀ t, (r t).shape.Idx → Elt F e) (G : s.Idx → Elt F e) (hG : ∀ t j, G ((r t).emb j) = X t j) :
    bigSep Finset.univ (fun t => own c (m.slice (r t) (hr t)) (X t)) ⊢ (own c m G : sProp 𝕄) := by
  refine BIBase.Entails.trans (bigSep_mono fun t _ => ?_) (owns_of_rects (c : Thread nD τ) m fullShare r hr hd hcov G)
  rw [show (fun j => G ((r t).emb j)) = X t from funext (hG t)]
  exact Idealize.SL.BI.Entails.refl _

end Family

/-! ## The kernel's slices are disjoint and cover their buffers -/

theorem wslot_disjoint (i i' : Fin 2) (h : i ≠ i') : Disjoint (wslotR i).set (wslotR i').set :=
  Ring.lead_disjoint (s := S2x2048x256) 0 1 (fun i : Fin 2 => ![i.val, 0, 0]) S1x2048x256.size wslot_inb (fun b => (Nat.one_mul _).symm) rfl i i' h
theorem wslot_cover : (Finset.univ : Finset (Fin 2)).biUnion (fun i => (wslotR i).set) = Finset.univ :=
  Ring.lead_cover (s := S2x2048x256) 0 1 (fun i : Fin 2 => ![i.val, 0, 0]) S1x2048x256.size wslot_inb (fun b => (Nat.one_mul _).symm)
    (by decide) rfl (by decide) rfl
theorem sslot_disjoint (i i' : Fin 6) (h : i ≠ i') : Disjoint (sslotR i).set (sslotR i').set :=
  Ring.lead_disjoint (s := S6x512x256) 0 1 (fun i : Fin 6 => ![i.val, 0, 0]) S1x512x256.size sslot_inb (fun b => (Nat.one_mul _).symm) rfl i i' h
theorem sslot_cover : (Finset.univ : Finset (Fin 6)).biUnion (fun i => (sslotR i).set) = Finset.univ :=
  Ring.lead_cover (s := S6x512x256) 0 1 (fun i : Fin 6 => ![i.val, 0, 0]) S1x512x256.size sslot_inb (fun b => (Nat.one_mul _).symm)
    (by decide) rfl (by decide) rfl
theorem slot_disjoint (i i' : Dev nD) (h : i ≠ i') : Disjoint (slotR i).set (slotR i').set :=
  Ring.lead_disjoint (s := S4x512x512) 0 1 (fun i : Dev nD => ![i.val, 0, 0]) S1x512x512.size slot_inb (fun b => (Nat.one_mul _).symm) rfl i i' h
theorem slot_cover : (Finset.univ : Finset (Dev nD)).biUnion (fun i => (slotR i).set) = Finset.univ :=
  Ring.lead_cover (s := S4x512x512) 0 1 (fun i : Dev nD => ![i.val, 0, 0]) S1x512x512.size slot_inb (fun b => (Nat.one_mul _).symm)
    (by decide) rfl (by decide) rfl
theorem rows_disjoint (i i' : Dev nD) (h : i ≠ i') : Disjoint (rowsR i).set (rowsR i').set :=
  Ring.lead_disjoint (s := S2048x512) 0 512 (fun i : Dev nD => ![512 * i.val, 0]) S512x512.size rows_inb (fun b => rfl) rfl i i' h
theorem rows_cover : (Finset.univ : Finset (Dev nD)).biUnion (fun i => (rowsR i).set) = Finset.univ :=
  Ring.lead_cover (s := S2048x512) 0 512 (fun i : Dev nD => ![512 * i.val, 0]) S512x512.size rows_inb (fun b => rfl)
    (by decide) rfl (by decide) rfl

/-! ## A slot and its halves -/

/-- A block whose left half of columns is `y₀` and whose right half is `y₁`. -/
def beside {α : Type} (y₀ y₁ : S512x256.Idx → α) : S512x512.Idx → α := fun i =>
  if h : (i 1).val < 256 then y₀ (ix2 (i 0) ⟨(i 1).val, h⟩)
  else y₁ (ix2 (i 0) ⟨(i 1).val - 256, by have : (i 1).val < 512 := (i 1).isLt; omega⟩)

section Halves
variable {e : EltTy} (M : Memref sig .tc .vmem S4x512x512 e) (s : Dev nD)

/-- Where half `h` of a slot lies in the slot. -/
def inSlot (h : Fin 2) (j : S512x256.Idx) : S512x512.Idx :=
  ix2 (j 0) ⟨256 * h.val + (j 1).val, by have : (j 1).val < 256 := (j 1).isLt; have := h.isLt; omega⟩

theorem inSlot_val (h : Fin 2) (j : S512x256.Idx) : (inSlot h j 1).val = 256 * h.val + (j 1).val := by
  rfl

/-- The element of the buffer at an index of a slot, -/
def slotE : S512x512.Idx ↪ M.view.ty.Idx := (slot M s).view.emb
/-- and of a half slot; -/
def partE (h : Fin 2) : S512x256.Idx ↪ M.view.ty.Idx := (part M s h).view.emb
/-- what either reads of the buffer. -/
def readAtE {κ : Type} (E : κ → M.view.ty.Idx) (f : M.view.ty.Contents (Elt F)) (j : κ) : Elt F e := cast (congrArg (Elt F) M.view.elt_eq) (f (E j))

theorem part_emb (h : Fin 2) (j : S512x256.Idx) : partE M s h j = slotE M s (inSlot h j) := by
  show M.view.emb ((partR s h).emb (Shape.reshapeEquiv _ j)) = M.view.emb ((slotR s).emb (Shape.reshapeEquiv _ (inSlot h j)))
  refine congrArg M.view.emb ?_
  have hj : j = ix2 (j 0) (j 1) := funext fun a => by fin_cases a <;> rfl
  rw [show (Shape.reshapeEquiv (squeezes_S1x512x256_S512x256).numel_eq j : S1x512x256.Idx) = ix3 (⟨0, Nat.one_pos⟩ : Fin 1) (j 0) (j 1) from by
      conv_lhs => rw [hj]
      exact reshapeEquiv_ix2_1ab _ _ _,
    show (Shape.reshapeEquiv (squeezes_S1x512x512_S512x512).numel_eq (inSlot h j) : S1x512x512.Idx)
        = ix3 (⟨0, Nat.one_pos⟩ : Fin 1) (inSlot h j 0) (inSlot h j 1) from reshapeEquiv_ix2_1ab _ _ _]
  funext a
  refine Fin.ext ?_
  fin_cases a
  · rfl
  · rfl
  · show 256 * h.val + 1 * (j 1).val = 0 + 1 * (256 * h.val + (j 1).val)
    omega

theorem eq_inSlot (i : S512x512.Idx) : ∃ h j, i = inSlot h j := by
  have hi : (i 1).val < 512 := (i 1).isLt
  by_cases h : (i 1).val < 256
  · exact ⟨0, ix2 (i 0) ⟨(i 1).val, h⟩, funext fun a => by
      fin_cases a
      · rfl
      · exact Fin.ext (by show (i 1).val = 256 * 0 + (i 1).val; omega)⟩
  · exact ⟨1, ix2 (i 0) ⟨(i 1).val - 256, by omega⟩, funext fun a => by
      fin_cases a
      · rfl
      · exact Fin.ext (by show (i 1).val = 256 * 1 + ((i 1).val - 256); omega)⟩

theorem beside_inSlot {α : Type} (y : Fin 2 → S512x256.Idx → α) (h : Fin 2) (j : S512x256.Idx) : beside (y 0) (y 1) (inSlot h j) = y h j := by
  have hj : (j 1).val < 256 := (j 1).isLt
  have hv := inSlot_val h j
  unfold beside
  by_cases hh : h = 0
  · subst hh
    have hv' : (inSlot 0 j 1).val = (j 1).val := hv.trans (by show 256 * 0 + _ = _; omega)
    rw [dif_pos (hv' ▸ hj)]
    exact congrArg (y 0) (funext fun a => by
      fin_cases a
      · rfl
      · exact Fin.ext hv')
  · have hh : h = 1 := by omega
    subst hh
    have hv' : (inSlot 1 j 1).val = 256 + (j 1).val := hv.trans (by show 256 * 1 + _ = _; omega)
    rw [dif_neg (by rw [hv']; omega)]
    exact congrArg (y 1) (funext fun a => by
      fin_cases a
      · rfl
      · exact Fin.ext (show (inSlot 1 j 1).val - 256 = (j 1).val by rw [hv']; omega))

def slotSet : Finset M.view.ty.Idx := Finset.univ.map (slotE M s)
def partSet (h : Fin 2) : Finset M.view.ty.Idx := Finset.univ.map (partE M s h)

theorem mem_partSet (h : Fin 2) (j : S512x256.Idx) : slotE M s (inSlot h j) ∈ partSet M s h := by
  rw [← part_emb]; exact Finset.mem_map_of_mem _ (Finset.mem_univ j)

theorem halves_set : slotSet M s = partSet M s 0 ∪ partSet M s 1 := by
  ext i
  rw [Finset.mem_union]
  constructor
  · intro hi
    obtain ⟨x, -, rfl⟩ := Finset.mem_map.mp hi
    obtain ⟨h, j, rfl⟩ := eq_inSlot x
    fin_cases h
    · exact .inl (mem_partSet M s 0 j)
    · exact .inr (mem_partSet M s 1 j)
  · rintro (hi | hi) <;>
    · obtain ⟨j, -, rfl⟩ := Finset.mem_map.mp hi
      rw [part_emb]
      exact Finset.mem_map_of_mem _ (Finset.mem_univ _)

theorem halves_disjoint : Disjoint (partSet M s 0) (partSet M s 1) := by
  rw [Finset.disjoint_left]
  intro i h₀ h₁
  obtain ⟨j, -, rfl⟩ := Finset.mem_map.mp h₀
  obtain ⟨j', -, e⟩ := Finset.mem_map.mp h₁
  rw [part_emb, part_emb] at e
  have e' : (inSlot 1 j' 1).val = (inSlot 0 j 1).val := congrArg (fun i : S512x512.Idx => (i 1).val) ((slotE M s).injective e)
  rw [inSlot_val, inSlot_val] at e'
  have e'' : 256 * 1 + (j' 1).val = 256 * 0 + (j 1).val := e'
  have hj : (j 1).val < 256 := (j 1).isLt
  omega

variable (c : Dev nD)

/-- A slot owned, and a half slot owned, in terms of the buffer. -/
theorem own_slot (X : S512x512.Idx → Elt F e) : (own c (slot M s) X : sProp 𝕄)
    = iprop(∃ f, ⌜readAtE M (slotE M s) f = X⌝ ∗ (M.view.loc (c : Thread nD τ) ↦[slotSet M s]{fullShare} f)) := rfl
theorem own_part (h : Fin 2) (X : S512x256.Idx → Elt F e) : (own c (part M s h) X : sProp 𝕄)
    = iprop(∃ f, ⌜readAtE M (partE M s h) f = X⌝ ∗ (M.view.loc (c : Thread nD τ) ↦[partSet M s h]{fullShare} f)) := rfl

/-- A slot owned is its halves owned, -/
theorem halves_split : (ownAny c (slot M s) : sProp 𝕄) ⊢ iprop(ownAny c (part M s 0) ∗ ownAny c (part M s 1)) := by
  unfold ownAny
  simp only [own_slot, own_part, halves_set]
  iintro ⟨%X, %f, -, H⟩
  ihave H := (pointsTo_union (halves_disjoint M s)).1 $$ H
  icases H with ⟨H₀, H₁⟩
  isplitl [H₀]
  · iexists (readAtE M (partE M s 0) f); iexists f; isplitr; rotate_left
    · iexact H₀
    · ipureintro; rfl
  · iexists (readAtE M (partE M s 1) f); iexists f; isplitr; rotate_left
    · iexact H₁
    · ipureintro; rfl

/-- and its halves reading two pieces are the slot reading them side by side. -/
theorem halves_join (y : Fin 2 → S512x256.Idx → Elt F e) :
    iprop(own c (part M s 0) (y 0) ∗ own c (part M s 1) (y 1)) ⊢ (own c (slot M s) (beside (y 0) (y 1)) : sProp 𝕄) := by
  simp only [own_slot, own_part, halves_set]
  iintro ⟨⟨%f, %hf, H₀⟩, %g, %hg, H₁⟩
  iexists ((partSet M s 1).piecewise g f)
  isplitr; rotate_left
  · iapply (pointsTo_join (halves_disjoint M s))
    isplitl [H₀]
    · iexact H₀
    · iexact H₁
  · ipureintro
    funext i
    obtain ⟨h, j, rfl⟩ := eq_inSlot i
    rw [beside_inSlot]
    unfold readAtE at hf hg ⊢
    by_cases hh : h = 0
    · subst hh
      rw [Finset.piecewise_eq_of_notMem _ _ _ (Finset.disjoint_left.mp (halves_disjoint M s) (mem_partSet M s 0 j))]
      have := congrFun hf j
      rw [part_emb] at this
      exact this
    · have hh : h = 1 := by omega
      subst hh
      rw [Finset.piecewise_eq_of_mem _ _ _ (mem_partSet M s 1 j)]
      have := congrFun hg j
      rw [part_emb] at this
      exact this

end Halves

end Cert.KernelIdeal.Talk

end
-- ==== Proof.KernelIdeal.Sched.lean ====
/-
# Who tells whom what

Each device computes, for every device `d`, the product of its rows of `x` with `d`'s columns of the weights, clipped below at zero,
and copies it into `d`'s landing buffer, in two halves.
A device signals the others at the start that its landing buffer may be written: the signal hands over the slot for the one signalled.
This module states the contents of every hand-over, and the rules for the signals, the copies to other devices and their waits.
-/
module

public import proofs.«01_k».proof.Proof.KernelIdeal.Slots
public import Idealize.ShloMosaic.Lib.Rounds

@[expose] public section

noncomputable section

namespace Cert.KernelIdeal.Talk

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The contents -/

/-- The arguments of every device. -/
structure Inputs (F : FTy → Type) [FloatOps F] where
  /-- the device's rows of `x`, -/
  x : Dev nD → S512x2048.Idx → Elt F .f32
  /-- and the weights. -/
  w : Dev nD → S2048x2048.Idx → Elt F .f32

variable (I : Inputs F)

/-- The columns of `s`'s weights that make half `h` of `d`'s block. -/
def Wc (s d : Dev nD) (h : Fin 2) : S2048x256.Idx → Elt F .f32 := fun i => I.w s ((winR d h).emb i)

/-- A product of rows with columns, clipped below at zero. -/
def prod (xb : FVec F S512x2048 .bf16) (w : FVec F S2048x256 .f32) : FVec F S512x256 .f32 :=
  maximumf (matmul dot_S512x2048_S2048x256_S512x256_1_0_0_1_n_n none xb (truncf .bf16 w bitsLt_bf16_f32) (constant S512x256 .f32 0x00000000#32))
    (broadcast S512x256 (Scalar.ofBits .f32 0x00000000#32))

/-- Half `h` of what `s` computes for `d`, -/
def Yf (s d : Dev nD) (h : Fin 2) : FVec F S512x256 .f32 := prod (k0_pay1 (I.x s)) (Wc I s d h)
/-- as it is sent. -/
def Yb (s d : Dev nD) (h : Fin 2) : FVec F S512x256 .bf16 := truncf .bf16 (Yf I s d h) bitsLt_bf16_f32

/-- Row block `s` of `c`'s result. -/
def Z (c s : Dev nD) : FVec F S512x512 .f32 :=
  if s = c then beside (Yf I c c 0) (Yf I c c 1) else extf .f32 (beside (Yb I s c 0) (Yb I s c 1) : FVec F S512x512 .bf16) bitsLt_bf16_f32

/-! ## The cells -/

/-- A device's cells that others credit or that credit others: its barrier, its sending and its receiving ones. -/
abbrev CIx : Type := Unit ⊕ Fin 6 ⊕ (Dev nD × Fin 2)

/-- The semaphore of a cell, -/
def csem : CIx → SemLoc sig
  | .inl _ => .reg barS
  | .inr (.inl t) => .dma (sendS t)
  | .inr (.inr q) => .dma (recvS q.1 q.2)

set_option backward.proofsInPublic true in
/-- and the cell of a semaphore. -/
def decode : SemLoc sig → Option CIx
  | .reg s => if s = barS then some (.inl ()) else none
  | .dma q =>
    if h : 3 ≤ q.val ∧ q.val < 9 then some (.inr (.inl ⟨q.val - 3, by omega⟩))
    else if h : 9 ≤ q.val ∧ q.val < 17 then some (.inr (.inr (⟨(q.val - 9) / 2, by have : nD = 4 := rfl; omega⟩, ⟨(q.val - 9) % 2, Nat.mod_lt _ (by decide)⟩)))
    else none

theorem decode_csem (i : CIx) : decode (csem i) = some i := by
  obtain _ | t | ⟨s, h⟩ := i
  · rfl
  · revert t; decide
  · revert s h; decide

theorem csem_inj {i j : CIx} (h : csem i = csem j) : i = j := Option.some.inj (by rw [← decode_csem i, ← decode_csem j, h])

/-- The credit of one copy between devices. -/
abbrev N : ℕ := (rpart 0 0).view.dmaCredit
theorem N_pos : 0 < N := View.dmaCredit_pos _ (by decide)

/-- Who pays a cell of `c`: its barrier the other devices, a sending one itself, a receiving one the device it receives from. -/
def duty (c : Dev nD) : CIx → Finset (Dev nD)
  | .inl _ => Finset.univ.erase c
  | .inr (.inl _) => {c}
  | .inr (.inr q) => if q.1 = c then ∅ else {q.1}

/-- With how much, -/
def dues : CIx → ℕ
  | .inl _ => 1
  | .inr _ => N

/-- and what comes with the payment of `p`: at the barrier `p`'s landing slot for `c`, at a sending cell the source back, at a receiving cell
    the landed half. -/
def pay (c : Dev nD) : CIx → Dev nD → sProp 𝕄
  | .inl _, p => iprop(ownAny p (rpart c 0) ∗ ownAny p (rpart c 1))
  | .inr (.inl t), _ => own c (sslot t) (Yb I c (step c (hop (ch t))) (half (ch t)))
  | .inr (.inr q), _ => own c (rpart q.1 q.2) (Yb I q.1 c q.2)

theorem pay_bar (c p : Dev nD) : (pay I c (.inl ()) p : sProp 𝕄) = iprop(ownAny p (rpart c 0) ∗ ownAny p (rpart c 1)) := rfl
theorem pay_send (c p : Dev nD) (t : Fin 6) :
    (pay I c (.inr (.inl t)) p : sProp 𝕄) = own c (sslot t) (Yb I c (step c (hop (ch t))) (half (ch t))) := rfl
theorem pay_recv (c p s : Dev nD) (h : Fin 2) : (pay I c (.inr (.inr (s, h))) p : sProp 𝕄) = own c (rpart s h) (Yb I s c h) := rfl
theorem credit_rpart (s : Dev nD) (h : Fin 2) (q : DmaSem sig) : (rpart s h).view.amount (.dma q) = N := rfl

/-- One round of these at every cell. -/
def sched : Rounds.Schedule (GSem nD τ sig) (Dev nD) (MT nD τ sig Unit (Elt F) ℕ UU ℕ) where
  duties g r := if r = 0 ∧ g.1.2 = .tc then (match decode g.2 with | some i => duty g.1.1 i | none => ∅) else ∅
  unitless _ := False
  amount g _ _ := match decode g.2 with | some i => dues i | none => 1
  payload g _ p := match decode g.2 with | some i => pay I g.1.1 i p | none => iprop(emp)
  amount_pos g _ _ _ := by
    cases decode g.2 with
    | none => exact Nat.one_pos
    | some i =>
      cases i with
      | inl _ => exact Nat.one_pos
      | inr _ => exact N_pos

instance pay_storable (c : Dev nD) (i : CIx) (p : Dev nD) : BI.Storable (upEmb : UEmb _ 𝕄) (pay I c i p) := by
  obtain _ | t | q := i
  · show BI.Storable upEmb (iprop(ownAny p (rpart c 0) ∗ ownAny p (rpart c 1)))
    infer_instance
  · show BI.Storable upEmb (own c (sslot t) (Yb I c (step c (hop (ch t))) (half (ch t))))
    infer_instance
  · show BI.Storable upEmb (own c (rpart q.1 q.2) (Yb I q.1 c q.2))
    infer_instance

instance sched_storable (g : GSem nD τ sig) (r : ℕ) (d : Dev nD) : BI.Storable (upEmb : UEmb _ 𝕄) ((sched I).payload g r d) := by
  show BI.Storable upEmb (match decode g.2 with | some i => pay I g.1.1 i d | none => iprop(emp))
  cases decode g.2 <;> infer_instance

/-- The cell `i` of device `c`. -/
abbrev cell (c : Dev nD) (i : CIx) : GSem nD τ sig := ((c : Thread nD τ), csem i)

theorem duties_cell (c : Dev nD) (i : CIx) : (sched I).duties (cell c i) 0 = duty c i := by
  dsimp only [sched]
  rw [if_pos ⟨rfl, rfl⟩, decode_csem]
theorem duties_later (g : GSem nD τ sig) : ∀ r, 1 ≤ r → (sched I).duties g r = ∅ := fun r hr => by
  dsimp only [sched]
  rw [if_neg fun h => by omega]
/-- A receiving cell for the device's own block is never paid. -/
theorem duties_self (c : Dev nD) (h : Fin 2) : ∀ r, 0 ≤ r → (sched I).duties (recvCell c c h) r = ∅ := fun r _ => by
  rcases Nat.eq_zero_or_pos r with rfl | hr
  · exact (duties_cell I c (.inr (.inr (c, h)))).trans (if_pos rfl)
  · exact duties_later I _ r hr
theorem amount_cell (c : Dev nD) (i : CIx) (p : Dev nD) : (sched I).amount (cell c i) 0 p = dues i := by
  dsimp only [sched]
  rw [decode_csem]
theorem payload_cell (c : Dev nD) (i : CIx) (p : Dev nD) : (sched I).payload (cell c i) 0 p = pay I c i p := by
  dsimp only [sched]
  rw [decode_csem]
theorem expect_cell (c : Dev nD) (i : CIx) : (sched I).expect (cell c i) 0 = (duty c i).card * dues i := by
  unfold Schedule.expect Schedule.amountOf
  rw [duties_cell, Finset.sum_congr rfl fun p _ => amount_cell I c i p, Finset.sum_const, smul_eq_mul]
theorem duties_send (c : Dev nD) (t : Fin 6) : (sched I).duties (sendCell c t) 0 = {c} := duties_cell I c (.inr (.inl t))
theorem duties_recv (c s : Dev nD) (h : Fin 2) (hs : s ≠ c) : (sched I).duties (recvCell c s h) 0 = {s} :=
  (duties_cell I c (.inr (.inr (s, h)))).trans (if_neg hs)
theorem amount_send (c : Dev nD) (t : Fin 6) (p : Dev nD) : (sched I).amount (sendCell c t) 0 p = N := amount_cell I c (.inr (.inl t)) p
theorem amount_recv (c s : Dev nD) (h : Fin 2) (p : Dev nD) : (sched I).amount (recvCell c s h) 0 p = N := amount_cell I c (.inr (.inr (s, h))) p
theorem payload_send (c p : Dev nD) (t : Fin 6) :
    ((sched I).payload (sendCell c t) 0 p : sProp 𝕄) = own c (sslot t) (Yb I c (step c (hop (ch t))) (half (ch t))) := payload_cell I c (.inr (.inl t)) p
theorem payload_recv (c s p : Dev nD) (h : Fin 2) : ((sched I).payload (recvCell c s h) 0 p : sProp 𝕄) = own c (rpart s h) (Yb I s c h) :=
  payload_cell I c (.inr (.inr (s, h))) p
theorem hop_ne (t : Fin 6) : hop (ch t) ≠ 0 := by revert t; decide
theorem ne_step (c : Dev nD) (t : Fin 6) : c ≠ step c (hop (ch t)) := fun h => hop_ne t (step_inj c _ 0 (by rw [step_zero]; exact h.symm))
/-- All that comes with a cell's round. -/
theorem rest_cell (c : Dev nD) (i : CIx) :
    bigSep ((sched I).duties (cell c i) 0 \ ∅) (fun p => (sched I).payload (cell c i) 0 p) = (bigSep (duty c i) (pay I c i) : sProp 𝕄) := by
  rw [Finset.sdiff_empty, duties_cell]
  exact bigSep_congr fun p _ => payload_cell I c i p

/-! ## What a device owes -/

/-- The arrivals that `c` still owes when it has sent `k` of its six chunks. -/
def sendOwe (c : Dev nD) (k : ℕ) : CellTallies nD τ sig Unit :=
  ∑ t ∈ Finset.univ.filter (fun t : Fin 6 => k ≤ t.val), tallyAt (recvCell (step c (hop (ch t))) c (half (ch t))) () N

theorem sendOwe_succ (c : Dev nD) (t : Fin 6) :
    sendOwe c t.val = sendOwe c (t.val + 1) + tallyAt (recvCell (step c (hop (ch t))) c (half (ch t))) () N := by
  unfold sendOwe
  rw [show Finset.univ.filter (fun t' : Fin 6 => t.val ≤ t'.val) = insert t (Finset.univ.filter (fun t' : Fin 6 => t.val + 1 ≤ t'.val)) from by
      revert t; decide,
    Finset.sum_insert (by simp), add_comm]
theorem sendOwe_six (c : Dev nD) : sendOwe c 6 = 0 := by
  unfold sendOwe
  rw [show Finset.univ.filter (fun t : Fin 6 => 6 ≤ t.val) = ∅ from by decide, Finset.sum_empty]
theorem sendOwe_arrivals (c : Dev nD) (k : ℕ) : Arrivals (sendOwe c k) := by
  intro g u h
  unfold sendOwe at h
  rw [Finset.sum_apply, Finsupp.finsetSum_apply] at h
  obtain ⟨t, -, ht⟩ := Finset.exists_ne_zero_of_sum_ne_zero h.ne'
  rw [tallyAt_apply] at ht
  by_cases hg : g = recvCell (step c (hop (ch t))) c (half (ch t)) ∧ u = ()
  · rw [hg.1]; exact ⟨rfl, _, _, rfl⟩
  · rw [if_neg hg] at ht; exact absurd rfl ht

/-- What `c` owes at the start: its arrivals, and a signal to every other device. -/
def O₀ (c : Dev nD) : CellTallies nD τ sig Unit :=
  sendOwe c 0 + tallyAt (barCell (step c 3)) () 1 + tallyAt (barCell (step c 2)) () 1 + tallyAt (barCell (step c 1)) () 1

/-! ## The rules -/

/-- Every cell's invariant, under the names `K`, and that its round is open. -/
def Invs (K : Dev nD × CIx → ℕ) : sProp 𝕄 :=
  bigSep Finset.univ fun q : Dev nD × CIx => iprop(cellInv ER (sched I) (K q) (cell q.1 q.2) ∗ reached ER (cell q.1 q.2) 0)

instance Invs_persistent (K : Dev nD × CIx → ℕ) : BI.Persistent (Invs I K) := by unfold Invs; infer_instance

variable (K : Dev nD × CIx → ℕ)

theorem Invs_cell (c : Dev nD) (i : CIx) : Invs I K ⊢ (iprop(cellInv ER (sched I) (K (c, i)) (cell c i) ∗ reached ER (cell c i) 0) : sProp 𝕄) := by
  unfold Invs
  rw [bigSep_erase (Finset.mem_univ (c, i))]
  show iprop(_ ∗ _) ⊢ _
  iintro ⟨H, -⟩
  iexact H

section Rules
variable (c : Dev nD) {α : Type} {Q : α → sProp (MT nD τ sig Unit (Elt F) ℕ UU ℕ)} {k : PUnit → Prog (TpuEff nD τ sig (Elt F) Λ₀ .tc) α}

/-- A signal to another device's barrier hands it this device's landing slot for it. -/
theorem bar_signal (r : Fin 4) (hr : r ≠ 0) (n : Dev nD) (hn : n = step c r) {O : CellTallies nD τ sig Unit} {k' : ℕ} (hk : k' = 1) :
    iprop(Invs I K ∗ Owes c (O + tallyAt (barCell (step c r)) () 1) ∗ dutyTok ER (barCell (step c r)) 0 c
        ∗ ownAny c (rpart (step c r) 0) ∗ ownAny c (rpart (step c r) 1))
      ⊢ iprop((Owes c O -∗ WP c (k ⟨⟩) Q) -∗ WP c (.op (.semSignal (n : Thread nD τ) barS k') k) Q) := by
  subst hn hk
  iintro ⟨#HI, ⟨%W, HO⟩, Htok, Hslots⟩ Hk
  ihave Hc := (Invs_cell I K (step c r) (.inl ())) $$ HI
  icases Hc with ⟨#Hinv, #Hr⟩
  iapply (Rounds.wp_signal 𝒱₀ ER (sched I) (c : Thread nD τ) none (dst := (step c r : Thread nD τ)) (κ := K (step c r, .inl ()))
      (d := c) (r := 0) (by
        rw [show ((step c r : Thread nD τ), SemLoc.reg barS) = cell (step c r) (.inl ()) from rfl, duties_cell]
        refine Finset.mem_erase.mpr ⟨?_, Finset.mem_univ _⟩
        intro h; exact hr (step_inj c r 0 (by rw [step_zero]; exact h.symm)))
      (amount_cell I (step c r) (.inl ()) c) () O rfl (W := W)) $$ [HO Htok Hslots]
  · isplitr; · iexact Hinv
    isplitl [HO]; · iexact HO
    isplitl [Htok]; · iexact Htok
    isplitl [Hslots]
    · rw [show ((step c r : Thread nD τ), SemLoc.reg barS) = cell (step c r) (.inl ()) from rfl, payload_cell, pay_bar]
      iexact Hslots
    iexact Hr
  iintro HO
  iapply Hk
  iexists W; iexact HO

/-- The wait for a whole round of one of the device's cells: what comes with it, and the counter at zero again. -/
theorem round_wait {w : TpuEff nD τ sig (Elt F) Λ₀ .tc PUnit} (i : CIx) {k' : ℕ} (hk : k' = (duty c i).card * dues i)
    (hw : ∀ K : PUnit → sProp 𝕄, wpE (defs₀ (F := F)) 𝒱₀ (c : Thread nD τ) none Set.univ w K = waitSpec (c : Thread nD τ) Set.univ (csem i) k' K)
    {O : CellTallies nD τ sig Unit} (hO : (levAts L lv : sProp 𝕄) ⊢ MayWait (c : Thread nD τ) (csem i) () O) :
    iprop(levAts L lv ∗ Invs I K ∗ Owes c O ∗ cred (tallyAt (cell c i) () k') ∗ atPos ER (cell c i) 0 ∅ 0)
      ⊢ iprop((iprop(Owes c O ∗ bigSep (duty c i) (pay I c i) ∗ semVal (cell c i) 0) -∗ WP c (k ⟨⟩) Q) -∗ WP c (.op w k) Q) := by
  iintro ⟨#Hlev, #HI, ⟨%W, HO⟩, Hc, Hat⟩ Hk
  ihave Hi := (Invs_cell I K c i) $$ HI
  icases Hi with ⟨#Hinv, -⟩
  iapply (Rounds.wp_wait_rest_token 𝒱₀ ER (sched I) (c : Thread nD τ) none (κ := K (c, i)) hw (Set.mem_univ _) () (O := O) (W := W) (R := 0) (m := 0) (T := ∅)
      (by rw [Nat.zero_add, hk]; exact (expect_cell I c i).symm)) $$ [Hc HO Hat]
  · isplitr; · iexact Hinv
    isplitl [Hc]; · iexact Hc
    isplitl [HO]; · iexact HO
    isplitr; · iapply hO; iexact Hlev
    iexact Hat
  iintro ⟨HO, Hat, -, Hpay⟩
  imod (Rounds.cell_close ER (sched I) (Set.mem_univ (K (c, i))) (fun h => h) (R := 0 + 1) (duties_later I (cell c i))) $$ [Hat] with Hz
  · isplitr; · iexact Hinv
    iexact Hat
  iapply Hk
  isplitl [HO]; · iexists _; iexact HO
  isplitl [Hpay]
  · ihave H := (Entails.of_eq (rest_cell I c i)) $$ Hpay
    iexact H
  iexact Hz

/-- What sending chunk `t` takes, its source apart: the tokens of its two ends and the peer's landing half. -/
def Sendable (t : Fin 6) : sProp 𝕄 :=
  iprop(dutyTok ER (sendCell c t) 0 c ∗ dutyTok ER (recvCell (step c (hop (ch t))) c (half (ch t))) 0 c
    ∗ ownAny (step c (hop (ch t))) (rpart c (half (ch t))))

/-- A chunk is sent. -/
theorem send (t : Fin 6) {n : Dev nD} (hn : n = step c (hop (ch t)))
    {src' : Memref sig .tc .vmem S512x256 .bf16} (hs : src' = sslot t)
    {dst' : Memref sig (Dev.tc n : Thread nD τ).2.kind .vmem S512x256 .bf16} (hd : dst' = rpart c (half (ch t)))
    {sS rS : DmaSem sig} (hsS : sS = sendS t) (hrS : rS = recvS c (half (ch t)))
    {hsc : dst'.view.ref.isScScratch = false} {hsrc : src'.view.WordExact} {hdst : dst'.view.WordExact}
    {hsem : DmaTarget.Typed .vmem (.dma rS) (.remote (Dev.tc n : Thread nD τ) dst' (.dma sS) hsc)} :
    iprop(Invs I K ∗ own c (sslot t) (Yb I c (step c (hop (ch t))) (half (ch t))) ∗ Sendable c t ∗ Owes c (sendOwe c t.val))
      ⊢ iprop((iprop(cred (tallyAt (sendCell c t) () N) ∗ Owes c (sendOwe c (t.val + 1))) -∗ WP c (k ⟨⟩) Q)
          -∗ WP c (.op (.enqueueDma src' (.remote (Dev.tc n : Thread nD τ) dst' (.dma sS) hsc) (.dma rS) hsrc hdst hsem) k) Q) := by
  subst hn hs hd hsS hrS
  unfold Sendable
  iintro ⟨#HI, Hs, ⟨Hts, Htr, ⟨%_, Hd⟩⟩, ⟨%W, HO⟩⟩ Hk
  unfold own owns
  icases Hs with ⟨%fs, %hX, Hs⟩
  icases Hd with ⟨%fd, -, Hd⟩
  ihave H₁ := (Invs_cell I K c (.inr (.inl t))) $$ HI
  icases H₁ with ⟨#Hi₁, #Hr₁⟩
  ihave H₂ := (Invs_cell I K (step c (hop (ch t))) (.inr (.inr (c, half (ch t))))) $$ HI
  icases H₂ with ⟨#Hi₂, #Hr₂⟩
  iapply (Rounds.wp_send_pointsTo 𝒱₀ ER (sched I) (c : Thread nD τ) none (c' := (step c (hop (ch t)) : Thread nD τ)) (κ₁ := K (c, .inr (.inl t)))
    (κ₂ := K (step c (hop (ch t)), .inr (.inr (c, half (ch t))))) (r₁ := 0) (r₂ := 0) (d₁ := c) (d₂ := c) (fs := fs) (fd := fd)
    (by rw [duties_send]; exact Finset.mem_singleton_self _)
    (by rw [duties_recv I _ _ _ (ne_step c t)]; exact Finset.mem_singleton_self _)
    () () N (credit_rpart c (half (ch t)) _) (amount_send I c t c) (amount_recv I (step c (hop (ch t))) c (half (ch t)) c)
    (sendOwe c (t.val + 1)) (sendOwe_succ c t) (W := W)
    (by
      rw [payload_send]
      unfold own owns
      iintro H; iexists fs; isplitr
      · ipureintro; exact hX
      · iexact H)
    (by
      rw [payload_recv]
      unfold own owns
      iintro H; iexists _; isplitr; rotate_left
      · iexact H
      · ipureintro; rw [View.read_write_univ]; exact hX)) $$ [Hs Hts Htr Hd HO]
  · isplitr; · iexact Hi₁
    isplitr; · iexact Hi₂
    isplitl [Hs]; · iexact Hs
    isplitl [Hd]; · iexact Hd
    isplitl [HO]; · iexact HO
    isplitl [Hts]; · iexact Hts
    isplitr; · iexact Hr₁
    isplitl [Htr]; · iexact Htr
    iexact Hr₂
  iintro ⟨Hc, HO⟩
  iapply Hk
  isplitl [Hc]; · iexact Hc
  iexists W; iexact HO

end Rules

end Cert.KernelIdeal.Talk

end
-- ==== Proof.KernelIdeal.Chunks.lean ====
/-
# The steps of a chunk

The weights are fetched a chunk at a time into the two slots of their buffer, one chunk ahead.
A chunk's product is stored in a slot and sent; what comes from the others is widened into the stage and copied to the result.
This module has one rule for every such step.
-/
module

public import proofs.«01_k».proof.Proof.KernelIdeal.Sched

@[expose] public section

noncomputable section

namespace Cert.KernelIdeal.Talk

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inputs F) (K : Dev nD × CIx → ℕ) (c : Dev nD)

/-! ## The weights' buffer -/

/-- Chunk `t` of `c`'s weights. -/
abbrev wch (t : Fin 8) : S2048x256.Idx → Elt F .f32 := Wc I c (step c (hop t)) (half t)
/-- Where it lies in the weights. -/
abbrev wwin (t : Fin 8) : Memref sig .tc .hbm S2048x256 .f32 := win (step c (hop t)) (half t)

/-- The rest of the weights while chunk `t` is being copied. -/
def Rest (t : Fin 8) : sProp 𝕄 :=
  iprop(∃ f, ⌜bM.view.read (Elt F) f = I.w c⌝ ∗ (bM.view.loc (c : Thread nD τ) ↦[bM.view.set \ (wwin c t).view.set]{fullShare} f))

/-- Chunk `t` on its way into slot `i`. -/
def Coming (t : Fin 8) (i : Fin 2) : sProp 𝕄 := iprop(Copying c (wwin c t) (wslot i) (wS i) (wch I c t) ∗ Rest I c t)

section Rules
variable {α : Type} {Q : α → sProp (MT nD τ sig Unit (Elt F) ℕ UU ℕ)} {k : PUnit → Prog (TpuEff nD τ sig (Elt F) Λ₀ .tc) α}

/-- The fetch of chunk `t` is started. -/
theorem w_start (t : Fin 8) (i : Fin 2) {src' : Memref sig .tc .hbm S2048x256 .f32} {dst' : Memref sig .tc .vmem S2048x256 .f32} {sem' : DmaSem sig}
    {hsrc : src'.view.WordExact} {hdst : dst'.view.WordExact}
    {hsem : DmaTarget.Typed (nD := nD) .hbm (.dma sem') (DmaTarget.here (p := (Proc.tc : Proc τ)) dst')}
    (hs : src' = wwin c t) (hd : dst' = wslot i) (hm : sem' = wS i) :
    iprop(own c bM (I.w c) ∗ ownAny c (wslot i) ∗ semVal ((c : Thread nD τ), .dma (wS i)) 0)
      ⊢ iprop((Coming I c t i -∗ WP c (k ⟨⟩) Q) -∗ WP c (.op (.enqueueDma src' (.here dst') (.dma sem') hsrc hdst hsem) k) Q) := by
  iintro ⟨Hb, Hd, Hv⟩ Hk
  ihave H := (owns_slice_split (c : Thread nD τ) bM fullShare (winR (step c (hop t)) (half t)) (fun _ => rfl) (I.w c)) $$ Hb
  icases H with ⟨Hs, Hr⟩
  iapply (copy_start c (wwin c t) (wslot i) (wS i) (X := wch I c t) (by decide) hs hd hm) $$ [Hs Hd Hv]
  · isplitl [Hs]; · iexact Hs
    isplitl [Hd] <;> iassumption
  iintro HF
  iapply Hk
  unfold Coming
  isplitl [HF]; · iexact HF
  unfold Rest
  iexact Hr

/-- The chunk and the rest are the weights. -/
theorem win_join (t : Fin 8) : iprop(own c (wwin c t) (wch I c t) ∗ Rest I c t) ⊢ (own c bM (I.w c) : sProp 𝕄) := by
  have e : (winR (step c (hop t)) (half t)).overlay (I.w c) (wch I c t) = I.w c := by
    funext j
    by_cases hj : j ∈ (winR (step c (hop t)) (half t)).set
    · obtain ⟨i, rfl⟩ := (winR (step c (hop t)) (half t)).exists_idx_of_mem hj
      exact Rect.overlay_emb _ _ _ i
    · exact Rect.overlay_of_not_mem _ _ _ hj
  unfold Rest
  iintro ⟨Hs, %f, %hf, Hr⟩
  ihave H := (owns_slice_join (c : Thread nD τ) bM fullShare (winR (step c (hop t)) (half t)) (fun _ => rfl) (wch I c t) f) $$ [Hs Hr]
  · isplitl [Hs]
    · iexact Hs
    · iexact Hr
  rw [hf, e]
  iexact H

theorem not_recv_w (i : Fin 2) : ¬ IsRecv (.dma (wS i)) := by revert i; decide

/-- The fetch of chunk `t` is waited for. -/
theorem w_wait (t : Fin 8) (i : Fin 2) {sp₁ sp₂ : Space} {s' : Shape} {e' : EltTy} {src' : Memref sig .tc sp₁ s' e'} {dst' : Memref sig .tc sp₂ s' e'} {sem' : DmaSem sig}
    {hsrc : src'.view.WordExact} {hdst : dst'.view.WordExact} {O : CellTallies nD τ sig Unit} (hO : Arrivals O)
    (hm : sem' = wS i) (hN : dst'.view.dmaCredit = (wslot i).view.dmaCredit) :
    iprop(levAts L lv ∗ Coming I c t i ∗ Owes c O)
      ⊢ iprop((iprop((own c bM (I.w c) ∗ own c (wslot i) (wch I c t) ∗ semVal ((c : Thread nD τ), .dma (wS i)) 0) ∗ Owes c O) -∗ WP c (k ⟨⟩) Q)
          -∗ WP c (.op (.waitDma2 sem' src' dst' hsrc hdst) k) Q) := by
  unfold Coming
  iintro ⟨#Hlev, ⟨HF, Hr⟩, HO⟩ Hk
  iapply (copy_wait c (wwin c t) (wslot i) (wS i) (not_recv_w i) hO hm hN) $$ [HF HO]
  · isplitr; · iexact Hlev
    isplitl [HF] <;> iassumption
  iintro ⟨⟨Hd, Hs⟩, Hv, HO⟩
  iapply Hk
  isplitr [HO]; rotate_left
  · iexact HO
  isplitl [Hs Hr]
  · iapply (win_join I c t)
    isplitl [Hs] <;> iassumption
  isplitl [Hd] <;> iassumption

/-! ## The chunks that are sent -/

/-- Chunk `t` before its product is stored, -/
def Fresh (t : Fin 6) : sProp 𝕄 := iprop(ownAny c (sslot t) ∗ Sendable c t ∗ atPos ER (sendCell c t) 0 ∅ 0)
/-- when it is stored, -/
def Stored (t : Fin 6) : sProp 𝕄 :=
  iprop(own c (sslot t) (Yb I c (step c (hop (ch t))) (half (ch t))) ∗ Sendable c t ∗ atPos ER (sendCell c t) 0 ∅ 0)
/-- when it is sent, -/
def Sent (t : Fin 6) : sProp 𝕄 := iprop(cred (tallyAt (sendCell c t) () N) ∗ atPos ER (sendCell c t) 0 ∅ 0)
/-- and when the sending has been waited for. -/
def Done (t : Fin 6) : sProp 𝕄 := iprop(ownAny c (sslot t) ∗ semVal (sendCell c t) 0)

/-- What the load before the store yields is not used. -/
theorem s_load (t : Fin 6) {r : Rect S6x512x256} {hr : ∀ a, r.stride a = 1} {hq : r.shape.Squeezes S512x256} (hv : (sM.slice r hr).squeeze S512x256 hq = sslot t)
    {hl : sM.view.LoadsAt r.toLoadRect} {k : (r.shape.Idx → Elt F .bf16) → Prog (TpuEff nD τ sig (Elt F) Λ₀ .tc) α} :
    Fresh c t ⊢ iprop((∀ x, Fresh c t -∗ WP c (k x) Q) -∗ WP c (.op (.load sM r.toLoadRect hl) k) Q) := by
  unfold Fresh
  iintro ⟨Hs, Hr⟩ Hk
  iapply (load_dead c hr hq (sslot t) hv) $$ Hs
  iintro %x Hs
  iapply Hk
  isplitl [Hs] <;> iassumption

/-- The product is stored. -/
theorem s_store (t : Fin 6) {r : Rect S6x512x256} {hr : ∀ a, r.stride a = 1} {hq : r.shape.Squeezes S512x256} (hv : (sM.slice r hr).squeeze S512x256 hq = sslot t)
    {w : r.shape.Idx → Elt F .bf16} {hst : (sM.access r).Stores Finset.univ} {hx : (Finset.univ : Finset r.shape.Idx) = Finset.univ ∨ ∀ a, r.stride a = 1}
    (hw : w = shapeCast r.shape (Yb I c (step c (hop (ch t))) (half (ch t))) hq.numel_eq.symm) :
    Fresh c t ⊢ iprop((Stored I c t -∗ WP c (k ⟨⟩) Q) -∗ WP c (.op (.store sM r w Finset.univ hst hx) k) Q) := by
  unfold Fresh Stored
  iintro ⟨Hs, Hr⟩ Hk
  iapply (store_slot c hr hq (sslot t) hv _ hw) $$ Hs
  iintro Hs
  iapply Hk
  isplitl [Hs] <;> iassumption

/-- The product is sent. -/
theorem s_send (t : Fin 6) {n : Dev nD} (hn : n = step c (hop (ch t)))
    {src' : Memref sig .tc .vmem S512x256 .bf16} (hs : src' = sslot t)
    {dst' : Memref sig (Dev.tc n : Thread nD τ).2.kind .vmem S512x256 .bf16} (hd : dst' = rpart c (half (ch t)))
    {sS rS : DmaSem sig} (hsS : sS = sendS t) (hrS : rS = recvS c (half (ch t)))
    {hsc : dst'.view.ref.isScScratch = false} {hsrc : src'.view.WordExact} {hdst : dst'.view.WordExact}
    {hsem : DmaTarget.Typed .vmem (.dma rS) (.remote (Dev.tc n : Thread nD τ) dst' (.dma sS) hsc)} :
    iprop(Invs I K ∗ Stored I c t ∗ Owes c (sendOwe c t.val))
      ⊢ iprop((iprop(Sent c t ∗ Owes c (sendOwe c (t.val + 1))) -∗ WP c (k ⟨⟩) Q)
          -∗ WP c (.op (.enqueueDma src' (.remote (Dev.tc n : Thread nD τ) dst' (.dma sS) hsc) (.dma rS) hsrc hdst hsem) k) Q) := by
  unfold Stored Sent
  iintro ⟨#HI, ⟨Hs, Hr, Hat⟩, HO⟩ Hk
  iapply (send I K c t hn hs hd hsS hrS) $$ [Hs Hr HO]
  · isplitr; · iexact HI
    isplitl [Hs]; · iexact Hs
    isplitl [Hr] <;> iassumption
  iintro ⟨Hc, HO⟩
  iapply Hk
  isplitr [HO]
  · isplitl [Hc] <;> iassumption
  · iexact HO

/-- The sending is waited for, when nothing is owed. -/
theorem s_wait (t : Fin 6) {sp₁ : Space} {src' : Memref sig .tc sp₁ S512x256 .bf16} {dst' : Memref sig .tc .vmem S512x256 .bf16} {sem' : DmaSem sig}
    {hsrc : src'.view.WordExact} {hdst : dst'.view.WordExact} (hm : sem' = sendS t) (hd' : dst' = sslot t) :
    iprop(levAts L lv ∗ Invs I K ∗ Sent c t ∗ Owes c 0)
      ⊢ iprop((iprop(Done c t ∗ Owes c 0) -∗ WP c (k ⟨⟩) Q) -∗ WP c (.op (.waitDma2 sem' src' dst' hsrc hdst) k) Q) := by
  subst hm
  have hN : dst'.view.dmaCredit = N := by rw [hd']
  unfold Sent Done
  have hp : bigSep (duty c (.inr (.inl t))) (pay I c (.inr (.inl t))) ⊢ (ownAny c (sslot t) : sProp 𝕄) := by
    rw [show duty c (.inr (.inl t)) = {c} from rfl, bigSep_singleton, pay_send]
    iintro H; iexists _; iexact H
  iintro ⟨#Hlev, #HI, ⟨Hc, Hat⟩, HO⟩ Hk
  iapply (round_wait I K c (.inr (.inl t)) (k' := N) (Nat.one_mul N).symm
    (fun K' => (wpE_waitDma2_eq 𝒱₀ (c : Thread nD τ) none Set.univ K').trans (by rw [hN]; rfl)) (O := 0) (by rw [MayWait_zero]; iintro -; iempintro)) $$ [HO Hc Hat]
  · isplitr; · iexact Hlev
    isplitr; · iexact HI
    isplitl [HO]; · iexact HO
    isplitl [Hc]; · iexact Hc
    iexact Hat
  iintro ⟨HO, Hp, Hz⟩
  iapply Hk
  isplitr [HO]; rotate_left
  · iexact HO
  isplitr [Hz]; rotate_left
  · iexact Hz
  iapply hp $$ Hp

/-! ## The blocks that arrive -/

/-- Half `h` of the block from `s`, to be waited for, -/
def Expected (s : Dev nD) (h : Fin 2) : sProp 𝕄 := iprop(cred (tallyAt (recvCell c s h) () N) ∗ atPos ER (recvCell c s h) 0 ∅ 0)
/-- and arrived. -/
def Got (s : Dev nD) (h : Fin 2) : sProp 𝕄 := iprop(own c (rpart s h) (Yb I s c h) ∗ semVal (recvCell c s h) 0)

/-- The arrival is waited for, when nothing is owed. -/
theorem r_wait (s : Dev nD) (h : Fin 2) (hs : s ≠ c) {sp₁ : Space} {src' : Memref sig .tc sp₁ S512x256 .bf16} {dst' : Memref sig .tc .vmem S512x256 .bf16} {sem' : DmaSem sig}
    {hsrc : src'.view.WordExact} {hdst : dst'.view.WordExact} (hm : sem' = recvS s h) (hd' : dst' = rpart s h) :
    iprop(levAts L lv ∗ Invs I K ∗ Expected c s h ∗ Owes c 0)
      ⊢ iprop((iprop(Got I c s h ∗ Owes c 0) -∗ WP c (k ⟨⟩) Q) -∗ WP c (.op (.waitDma2 sem' src' dst' hsrc hdst) k) Q) := by
  subst hm
  have hN : dst'.view.dmaCredit = N := by rw [hd']
  unfold Expected Got
  have hd : duty c (.inr (.inr (s, h))) = {s} := if_neg hs
  have hp : bigSep (duty c (.inr (.inr (s, h)))) (pay I c (.inr (.inr (s, h)))) ⊢ (own c (rpart s h) (Yb I s c h) : sProp 𝕄) := by
    rw [hd, bigSep_singleton, pay_recv]
  iintro ⟨#Hlev, #HI, ⟨Hc, Hat⟩, HO⟩ Hk
  iapply (round_wait I K c (.inr (.inr (s, h))) (k' := N) (by rw [hd]; exact (Nat.one_mul N).symm)
    (fun K' => (wpE_waitDma2_eq 𝒱₀ (c : Thread nD τ) none Set.univ K').trans (by rw [hN]; rfl)) (O := 0) (by rw [MayWait_zero]; iintro -; iempintro)) $$ [HO Hc Hat]
  · isplitr; · iexact Hlev
    isplitr; · iexact HI
    isplitl [HO]; · iexact HO
    isplitl [Hc]; · iexact Hc
    iexact Hat
  iintro ⟨HO, Hp, Hz⟩
  iapply Hk
  isplitr [HO]; rotate_left
  · iexact HO
  isplitr [Hz]; rotate_left
  · iexact Hz
  iapply hp $$ Hp

/-- The landing slots of the others, in the order in which they are used. -/
def Peers : sProp 𝕄 :=
  iprop((ownAny (step c 2) (rpart c 0) ∗ ownAny (step c 2) (rpart c 1)) ∗ (ownAny (step c 1) (rpart c 0) ∗ ownAny (step c 1) (rpart c 1))
    ∗ (ownAny (step c 3) (rpart c 0) ∗ ownAny (step c 3) (rpart c 1)))

/-- The barrier's wait for the three others, while arrivals are owed. -/
theorem bar_wait {k' : ℕ} (hk : k' = 3) {O : CellTallies nD τ sig Unit} (hO : Arrivals O) :
    iprop(levAts L lv ∗ Invs I K ∗ Owes c O ∗ cred (tallyAt (barCell c) () 3) ∗ atPos ER (barCell c) 0 ∅ 0)
      ⊢ iprop((iprop(Owes c O ∗ Peers c ∗ semVal (barCell c) 0) -∗ WP c (k ⟨⟩) Q) -∗ WP c (.op (.semWait barS k') k) Q) := by
  subst hk
  have h₀ : 3 = (duty c (.inl ())).card * dues (.inl ()) := by revert c; decide
  have h₁ : duty c (.inl ()) = insert (step c 2) (insert (step c 1) {step c 3}) := by revert c; decide
  have h₂ : step c 2 ∉ insert (step c 1) ({step c 3} : Finset (Dev nD)) := by revert c; decide
  have h₃ : step c 1 ∉ ({step c 3} : Finset (Dev nD)) := by revert c; decide
  have hp : bigSep (duty c (.inl ())) (pay I c (.inl ())) ⊢ (Peers c : sProp 𝕄) := by
    rw [h₁, bigSep_insert h₂, bigSep_insert h₃, bigSep_singleton]
    exact Idealize.SL.BI.Entails.refl _
  iintro ⟨#Hlev, #HI, HO, Hc, Hat⟩ Hk
  iapply (round_wait I K c (.inl ()) (k' := 3) h₀
    (fun K' => wpE_semWait_eq 𝒱₀ (c : Thread nD τ) none Set.univ K') (mayWait_of c (.reg barS) (by decide) O hO)) $$ [HO Hc Hat]
  · isplitr; · iexact Hlev
    isplitr; · iexact HI
    isplitl [HO]; · iexact HO
    isplitl [Hc]; · iexact Hc
    iexact Hat
  iintro ⟨HO, Hp, Hz⟩
  iapply Hk
  isplitl [HO]; · iexact HO
  isplitr [Hz]; rotate_left
  · iexact Hz
  iapply hp $$ Hp

/-! ## The result -/

/-- Row block `s` of the result, before its copy, -/
def Ofresh (s : Dev nD) : sProp 𝕄 := iprop(ownAny c (orows s) ∗ semVal ((c : Thread nD τ), .dma (outS s)) 0)
/-- and after it. -/
def Oend (s : Dev nD) : sProp 𝕄 := iprop(own c (orows s) (Z I c s) ∗ ownAny c (gslot s) ∗ semVal ((c : Thread nD τ), .dma (outS s)) 0)
/-- In between. -/
def Ofly (s : Dev nD) : sProp 𝕄 := Copying c (gslot s) (orows s) (outS s) (Z I c s)

theorem not_recv_out (s : Dev nD) : ¬ IsRecv (.dma (outS s)) := by revert s; decide

/-- The copy of a row block to the result is started, -/
theorem o_start (s : Dev nD) {src' : Memref sig .tc .vmem S512x512 .f32} {dst' : Memref sig .tc .hbm S512x512 .f32} {sem' : DmaSem sig}
    {hsrc : src'.view.WordExact} {hdst : dst'.view.WordExact}
    {hsem : DmaTarget.Typed (nD := nD) .vmem (.dma sem') (DmaTarget.here (p := (Proc.tc : Proc τ)) dst')}
    (hs : src' = gslot s) (hd : dst' = orows s) (hm : sem' = outS s) :
    iprop(own c (gslot s) (Z I c s) ∗ Ofresh c s)
      ⊢ iprop((Ofly I c s -∗ WP c (k ⟨⟩) Q) -∗ WP c (.op (.enqueueDma src' (.here dst') (.dma sem') hsrc hdst hsem) k) Q) := by
  unfold Ofresh Ofly
  exact copy_start c (gslot s) (orows s) (outS s) (X := Z I c s) (by decide) hs hd hm

/-- and waited for. -/
theorem o_wait (s : Dev nD) {sp₁ sp₂ : Space} {s' : Shape} {e' : EltTy} {src' : Memref sig .tc sp₁ s' e'} {dst' : Memref sig .tc sp₂ s' e'} {sem' : DmaSem sig}
    {hsrc : src'.view.WordExact} {hdst : dst'.view.WordExact} (hm : sem' = outS s) (hN : dst'.view.dmaCredit = (orows s).view.dmaCredit) :
    iprop(levAts L lv ∗ Ofly I c s ∗ Owes c 0)
      ⊢ iprop((iprop(Oend I c s ∗ Owes c 0) -∗ WP c (k ⟨⟩) Q) -∗ WP c (.op (.waitDma2 sem' src' dst' hsrc hdst) k) Q) := by
  unfold Ofly Oend
  iintro H Hk
  iapply (copy_wait c (gslot s) (orows s) (outS s) (not_recv_out s) arrivals_zero hm hN) $$ H
  iintro ⟨⟨Hd, Hs⟩, Hv, HO⟩
  iapply Hk
  isplitr [HO]; rotate_left
  · iexact HO
  isplitl [Hd]; · iexact Hd
  isplitl [Hs]
  · iexists _; iexact Hs
  · iexact Hv

/-! ## The copy of `x` -/

theorem hz : (![0, 0] : Fin 2 → Nat) = fun _ => 0 := funext fun a => by fin_cases a <;> rfl

/-- The load of the whole of `x`. -/
theorem x_load {X : S512x2048.Idx → Elt F .f32} {inb : ∀ a, (![0, 0] : Fin 2 → Nat) a + S512x2048.size a ≤ S512x2048.size a}
    {hl : xM.view.LoadsAt (Rect.unit (s := S512x2048) ![0, 0] S512x2048.size inb).toLoadRect}
    {k : (S512x2048.Idx → Elt F .f32) → Prog (TpuEff nD τ sig (Elt F) Λ₀ .tc) α} :
    own c xM X ⊢ iprop((own c xM X -∗ WP c (k X) Q) -∗ WP c (.op (.load xM (Rect.unit (s := S512x2048) ![0, 0] S512x2048.size inb).toLoadRect hl) k) Q) := by
  unfold own owns
  iintro ⟨%f, %hf, H⟩ Hk
  subst hf
  iapply (wp_load 𝒱₀ (c : Thread nD τ) none Set.univ (m := xM) (f := f) (S := xM.view.set) (by
    rw [show xM.view.set = Finset.univ from View.set_whole _]; exact Finset.subset_univ _)) $$ H
  iintro H
  rw [show xM.view.readAt (Elt F) (Rect.unit (s := S512x2048) ![0, 0] S512x2048.size inb).toLoadRect f = xM.view.read (Elt F) f from
    Memref.readAt_unit_zero (Elt F) cc0_scratch0 hz _ f]
  iapply Hk
  iexists f
  isplitr
  · ipureintro; rfl
  · iexact H

/-- The device itself and the three others are all devices. -/
theorem gather (Φ : Dev nD → sProp 𝕄) : bigSep Finset.univ Φ = iprop(Φ (step c 0) ∗ Φ (step c 1) ∗ Φ (step c 2) ∗ Φ (step c 3)) := by
  rw [bigSep_univ_eq_bigSepL [step c 0, step c 1, step c 2, step c 3] (by revert c; decide) (by revert c; decide),
    bigSepL_cons_cons, bigSepL_cons_cons, bigSepL_cons_cons, bigSepL_singleton]
  rfl

end Rules

end Cert.KernelIdeal.Talk

end
-- ==== Proof.KernelIdeal.Body.lean ====
/-
# One device's run

The kernel's body at a device `c`, effect by effect, from the device's share of what is dealt at the start.
-/
module

public import proofs.«01_k».proof.Proof.KernelIdeal.Chunks

@[expose] public section

noncomputable section

namespace Cert.KernelIdeal.Talk

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inputs F) (K : Dev nD × CIx → ℕ) (c : Dev nD)

/-! ## What is dealt and what is left -/

/-- The signal to the device `r` steps ahead: its token, and the landing slot that it hands over. -/
def Signal (r : Fin 4) : sProp 𝕄 :=
  iprop(dutyTok ER (barCell (step c r)) 0 c ∗ ownAny c (rpart (step c r) 0) ∗ ownAny c (rpart (step c r) 1))
/-- Chunk `t` before the barrier: all that sending it takes but the peer's landing half. -/
def Pending (t : Fin 6) : sProp 𝕄 :=
  iprop(ownAny c (sslot t) ∗ dutyTok ER (sendCell c t) 0 c ∗ dutyTok ER (recvCell (step c (hop (ch t))) c (half (ch t))) 0 c
    ∗ atPos ER (sendCell c t) 0 ∅ 0)
/-- The block from the device `r` steps ahead: its two arrivals, the stage's slot and the rows of the result. -/
def Inbound (r : Fin 4) : sProp 𝕄 :=
  iprop(Expected c (step c r) 0 ∗ Expected c (step c r) 1 ∗ ownAny c (gslot (step c r)) ∗ Ofresh c (step c r))
/-- What is left of it in the landing buffer. -/
def Landed (r : Fin 4) : sProp 𝕄 :=
  iprop(ownAny c (slot rM (step c r)) ∗ semVal (recvCell c (step c r) 0) 0 ∗ semVal (recvCell c (step c r) 1) 0)
/-- The weights' buffer at rest. -/
def Weights : sProp 𝕄 :=
  iprop(own c bM (I.w c) ∗ (ownAny c (wslot 0) ∗ ownAny c (wslot 1)) ∗ semVal ((c : Thread nD τ), .dma (wS 0)) 0 ∗ semVal ((c : Thread nD τ), .dma (wS 1)) 0)
/-- The buffer of `x` at rest. -/
def Rows : sProp 𝕄 := iprop(own c aM (I.x c) ∗ ownAny c xM ∗ semVal ((c : Thread nD τ), .dma xS) 0)

/-- What `c` starts from, -/
def Pre : sProp 𝕄 :=
  iprop(Owes c (O₀ c) ∗ Rows I c ∗ Weights I c ∗ (Signal c 1 ∗ Signal c 2 ∗ Signal c 3) ∗ cred (tallyAt (barCell c) () 3) ∗ atPos ER (barCell c) 0 ∅ 0
    ∗ (Pending c 0 ∗ Pending c 1 ∗ Pending c 2 ∗ Pending c 3 ∗ Pending c 4 ∗ Pending c 5)
    ∗ (ownAny c (gslot (step c 0)) ∗ Ofresh c (step c 0)) ∗ Inbound c 1 ∗ Inbound c 2 ∗ Inbound c 3)
/-- and what it ends with. -/
def Post : sProp 𝕄 :=
  iprop(Owes c 0 ∗ Rows I c ∗ Weights I c ∗ semVal (barCell c) 0
    ∗ (Done c 0 ∗ Done c 1 ∗ Done c 2 ∗ Done c 3 ∗ Done c 4 ∗ Done c 5)
    ∗ (Landed c 1 ∗ Landed c 2 ∗ Landed c 3) ∗ (Oend I c 0 ∗ Oend I c 1 ∗ Oend I c 2 ∗ Oend I c 3))

theorem not_recv_x : ¬ IsRecv (.dma xS) := by decide

/-- With the peer's landing half a pending chunk can be stored and sent. -/
theorem fresh (t : Fin 6) : iprop(Pending c t ∗ ownAny (step c (hop (ch t))) (rpart c (half (ch t)))) ⊢ (Fresh c t : sProp 𝕄) := by
  unfold Pending Fresh Sendable
  iintro ⟨⟨Hs, H₁, H₂, Ha⟩, Hp⟩
  isplitl [Hs]; · iexact Hs
  isplitr [Ha]; rotate_left
  · iexact Ha
  isplitl [H₁]; · iexact H₁
  isplitl [H₂] <;> iassumption

/-- The barrier makes all six chunks so. -/
theorem fresh_all :
    iprop((Pending c 0 ∗ Pending c 1 ∗ Pending c 2 ∗ Pending c 3 ∗ Pending c 4 ∗ Pending c 5) ∗ Peers c)
      ⊢ (iprop(Fresh c 0 ∗ Fresh c 1 ∗ Fresh c 2 ∗ Fresh c 3 ∗ Fresh c 4 ∗ Fresh c 5) : sProp 𝕄) := by
  unfold Peers
  iintro ⟨⟨H0, H1, H2, H3, H4, H5⟩, ⟨P0, P1⟩, ⟨P2, P3⟩, P4, P5⟩
  isplitl [H0 P0]
  · iapply (fresh c 0); isplitl [H0]; · iexact H0
    iexact P0
  isplitl [H1 P1]
  · iapply (fresh c 1); isplitl [H1]; · iexact H1
    iexact P1
  isplitl [H2 P2]
  · iapply (fresh c 2); isplitl [H2]; · iexact H2
    iexact P2
  isplitl [H3 P3]
  · iapply (fresh c 3); isplitl [H3]; · iexact H3
    iexact P3
  isplitl [H4 P4]
  · iapply (fresh c 4); isplitl [H4]; · iexact H4
    iexact P4
  iapply (fresh c 5); isplitl [H5]; · iexact H5
  iexact P5

/-! ## What the kernel stores -/

/-- A reshape undone. -/
theorem cast_back {α : Type} {s t : Shape} (v : s.Idx → α) (h : s.ShapeCasts t) (h' : t.ShapeCasts s) :
    shapeCast s (shapeCast t v h) h' = v := by rw [shapeCast_shapeCast]
theorem pay2_eq (xb : FVec F S512x2048 .bf16) (w : S2048x256.Idx → Elt F .f32) (h₁ : S2048x256.ShapeCasts S1x2048x256) :
    k0_pay2 xb (shapeCast S1x2048x256 w h₁) = shapeCast S1x512x256 (truncf .bf16 (prod xb w) bitsLt_bf16_f32) shapeCasts_S512x256_S1x512x256 := by
  unfold k0_pay2
  exact congrArg (fun v : S2048x256.Idx → Elt F .f32 => shapeCast S1x512x256 (truncf .bf16 (prod xb v) bitsLt_bf16_f32) shapeCasts_S512x256_S1x512x256) (cast_back w h₁ shapeCasts_S1x2048x256_S2048x256)
theorem pay4_eq (xb : FVec F S512x2048 .bf16) (w : S2048x256.Idx → Elt F .f32) (h₁ : S2048x256.ShapeCasts S1x2048x256) :
    k0_pay4 xb (k0_pay3 (shapeCast S1x2048x256 w h₁)) = shapeCast S1x512x256 (truncf .bf16 (prod xb w) bitsLt_bf16_f32) shapeCasts_S512x256_S1x512x256 :=
  pay2_eq xb w h₁
theorem pay6_eq (xb : FVec F S512x2048 .bf16) (w : S2048x256.Idx → Elt F .f32) (h₁ : S2048x256.ShapeCasts S1x2048x256) :
    k0_pay6 (k0_pay5 xb (shapeCast S1x2048x256 w h₁)) = shapeCast S1x512x256 (truncf .bf16 (prod xb w) bitsLt_bf16_f32) shapeCasts_S512x256_S1x512x256 :=
  pay2_eq xb w h₁
theorem pay11_eq (xb : FVec F S512x2048 .bf16) (w : S2048x256.Idx → Elt F .f32) (h₁ : S2048x256.ShapeCasts S1x2048x256) :
    k0_pay11 xb (k0_pay10 (shapeCast S1x2048x256 w h₁)) = shapeCast S1x512x256 (prod xb w) shapeCasts_S512x256_S1x512x256 := by
  unfold k0_pay11 k0_pay10
  exact congrArg (fun v : S2048x256.Idx → Elt F .f32 => shapeCast S1x512x256 (prod xb v) shapeCasts_S512x256_S1x512x256) (cast_back w h₁ shapeCasts_S1x2048x256_S2048x256)
theorem pay13_eq (xb : FVec F S512x2048 .bf16) (w : S2048x256.Idx → Elt F .f32) (h₁ : S2048x256.ShapeCasts S1x2048x256) :
    k0_pay13 (k0_pay12 xb (shapeCast S1x2048x256 w h₁)) = shapeCast S1x512x256 (prod xb w) shapeCasts_S512x256_S1x512x256 :=
  pay11_eq xb w h₁
theorem pay14_eq (v : S512x512.Idx → Elt F .bf16) (h₁ : S512x512.ShapeCasts S1x512x512) :
    k0_pay14 (shapeCast S1x512x512 v h₁) = shapeCast S1x512x512 (extf .f32 (v : FVec F S512x512 .bf16) bitsLt_bf16_f32) shapeCasts_S512x512_S1x512x512 := by
  unfold k0_pay14
  exact congrArg (fun v : S512x512.Idx → Elt F .bf16 => shapeCast S1x512x512 (extf .f32 (v : FVec F S512x512 .bf16) bitsLt_bf16_f32) shapeCasts_S512x512_S1x512x512) (cast_back v h₁ shapeCasts_S1x512x512_S512x512)

/-- Something is there. -/
theorem any_of {s : Shape} {e : EltTy} {sp : Space} {v : Memref sig .tc sp s e} {X : s.Idx → Elt F e} : own c v X ⊢ (ownAny c v : sProp 𝕄) := by
  iintro H; iexists X; iexact H

/-- After the six sends nothing is owed. -/
theorem owes_six : Owes c (sendOwe c ((5 : Fin 6).val + 1)) ⊢ (Owes c 0 : sProp 𝕄) := by
  show Owes c (sendOwe c 6) ⊢ _
  rw [sendOwe_six]
theorem step_ne (r : Fin 4) (h : r ≠ 0) : step c r ≠ c := by revert r; revert c; decide

/-- The stage's slot of the device's own block, in two halves. -/
theorem own_begin : iprop(ownAny c (gslot (step c 0)) ∗ Ofresh c (step c 0)) ⊢ (iprop((ownAny c (part gM c 0) ∗ ownAny c (part gM c 1)) ∗ Ofresh c c) : sProp 𝕄) := by
  rw [step_zero]
  iintro ⟨H, Ho⟩
  isplitl [H]
  · iapply (halves_split gM c c); iexact H
  iexact Ho
/-- Both halves stored, it holds the block. -/
theorem own_end : iprop(own c (part gM c 0) (Yf I c c 0) ∗ own c (part gM c 1) (Yf I c c 1)) ⊢ (own c (gslot c) (Z I c c) : sProp 𝕄) := by
  have e : Z I c c = beside (Yf I c c 0) (Yf I c c 1) := if_pos rfl
  rw [e]
  exact halves_join gM c c (fun h => Yf I c c h)
/-- Both arrivals make the block in the landing buffer. -/
theorem landed (s : Dev nD) : iprop(Got I c s 0 ∗ Got I c s 1)
    ⊢ (iprop(own c (slot rM s) (beside (Yb I s c 0) (Yb I s c 1)) ∗ semVal (recvCell c s 0) 0 ∗ semVal (recvCell c s 1) 0) : sProp 𝕄) := by
  have hp := halves_join (F := F) rM s c (fun h => Yb I s c h)
  unfold Got
  iintro ⟨⟨H0, S0⟩, H1, S1⟩
  isplitl [H0 H1]
  · iapply hp; isplitl [H0] <;> iassumption
  isplitl [S0] <;> iassumption
/-- What is stored for the device's own block, -/
theorem own_eq0 : k0_pay11 (k0_pay1 (I.x c)) (k0_pay10 (shapeCast S1x2048x256 (wch I c 6) squeezes_S1x2048x256_S2048x256.numel_eq.symm)) = shapeCast S1x512x256 (Yf I c c 0) squeezes_S1x512x256_S512x256.numel_eq.symm := by
  have e : wch I c 6 = Wc I c c 0 := by show Wc I c (step c 0) 0 = _; rw [step_zero]
  rw [e]
  exact pay11_eq _ _ _
theorem own_eq1 : k0_pay13 (k0_pay12 (k0_pay1 (I.x c)) (shapeCast S1x2048x256 (wch I c 7) squeezes_S1x2048x256_S2048x256.numel_eq.symm)) = shapeCast S1x512x256 (Yf I c c 1) squeezes_S1x512x256_S512x256.numel_eq.symm := by
  have e : wch I c 7 = Wc I c c 1 := by show Wc I c (step c 0) 1 = _; rw [step_zero]
  rw [e]
  exact pay13_eq _ _ _
/-- and for another's. -/
theorem inb_eq (r : Fin 4) (h : r ≠ 0) : k0_pay14 (shapeCast S1x512x512 (beside (Yb I (step c r) c 0) (Yb I (step c r) c 1)) squeezes_S1x512x512_S512x512.numel_eq.symm)
    = shapeCast S1x512x512 (Z I c (step c r)) squeezes_S1x512x512_S512x512.numel_eq.symm := by
  have e : Z I c (step c r) = extf .f32 (beside (Yb I (step c r) c 0) (Yb I (step c r) c 1)) bitsLt_bf16_f32 := if_neg (step_ne c r h)
  rw [e]
  exact pay14_eq _ _

/-- The copies to the result, by number. -/
theorem by_number : iprop(Ofly I c c ∗ Ofly I c (step c 1) ∗ Ofly I c (step c 2) ∗ Ofly I c (step c 3))
    ⊢ (iprop(Ofly I c 0 ∗ Ofly I c 1 ∗ Ofly I c 2 ∗ Ofly I c 3) : sProp 𝕄) := by
  have h := gather (F := F) c (Ofly I c)
  rw [step_zero] at h
  rw [← h, gather (F := F) 0 (Ofly I c)]
  exact Idealize.SL.BI.Entails.refl _
/-- A finished program. -/
theorem ret_intro {α : Type} {Q : α → sProp (MT nD τ sig Unit (Elt F) ℕ UU ℕ)} {a : α} : Q a ⊢ WP c (.ret a) Q := by
  unfold WP; rw [wp_ret]; exact fupd_intro

set_option maxHeartbeats 4000000 in
/-- The body of the kernel on device `c`. -/
theorem body (Kt : PUnit → sProp 𝕄) :
    iprop(levAts L lv ∗ Invs I K ∗ Pre I c ∗ (Post I c -∗ Kt ⟨⟩)) ⊢ WP c (cc0_body (F := F) aM (Memref.isWhole_whole _) bM (Memref.isWhole_whole _) oM (Memref.isWhole_whole _)
      xM (Memref.isWhole_whole _) wM (Memref.isWhole_whole _) sM (Memref.isWhole_whole _) rM (Memref.isWhole_whole _) gM (Memref.isWhole_whole _)
      cc0_scratch5 cc0_scratch6 cc0_scratch7 cc0_scratch8 cc0_scratch9) Kt := by
  simp only [cc0_body_eq_skeleton]; unfold cc0_body_skel
  simp only [k0_part22_eq_skeleton]; unfold k0_part22_skel
  simp only [semSignalWord, semWaitWord, Prog.lift, Prog.bind_op, Prog.bind_ret, Prog.pure_eq_ret, wp_deviceId]
  simp only [k0_part1_eq_skeleton]; unfold k0_part1_skel
  simp only [semSignalWord, semWaitWord, Prog.lift, Prog.bind_op, Prog.bind_ret, Prog.pure_eq_ret, wp_deviceId]
  unfold Pre Rows Weights Signal Inbound
  iintro ⟨#Hlev, #HI, ⟨HO, ⟨Ha, Hx, HxS⟩, ⟨Hb, ⟨Hw0, Hw1⟩, HwS0, HwS1⟩, ⟨⟨Hs1, Hr1⟩, ⟨Hs2, Hr2⟩, ⟨Hs3, Hr3⟩⟩, HcB, HaB, HP, HG, HI1, HI2, HI3⟩, Hk⟩
  iapply (copy_start c aM xM xS (X := I.x c) (by decide) rfl rfl rfl) $$ [Ha Hx HxS]
  · isplitl [Ha]; · iexact Ha
    isplitl [Hx]; · iexact Hx
    iexact HxS
  iintro Hxc
  iapply (w_start I c 0 0 (win_of (off := k0_off1 c 2#32 0#32) (off1_eq c 2 0)) (wslot_of (off := ![0, 0, 0]) (i := 0) rfl) (wS_of (off := ![0]) (i := 0) rfl)) $$ [Hb Hw0 HwS0]
  · isplitl [Hb]; · iexact Hb
    isplitl [Hw0]; · iexact Hw0
    iexact HwS0
  iintro Hco
  simp only [k0_part2_eq_skeleton]; unfold k0_part2_skel
  simp only [semSignalWord, semWaitWord, Prog.lift, Prog.bind_op, Prog.bind_ret, Prog.pure_eq_ret, wp_deviceId]
  unfold O₀
  iapply (bar_signal I K c 1 (by decide) _ (dev1_eq c) rfl) $$ [HO Hs1 Hr1]
  · isplitr [HO Hs1 Hr1]; · iexact HI
    isplitl [HO]; · iexact HO
    isplitl [Hs1]; · iexact Hs1
    iexact Hr1
  iintro HO
  iapply (bar_signal I K c 2 (by decide) _ (dev2_eq c) rfl) $$ [HO Hs2 Hr2]
  · isplitr [HO Hs2 Hr2]; · iexact HI
    isplitl [HO]; · iexact HO
    isplitl [Hs2]; · iexact Hs2
    iexact Hr2
  iintro HO
  iapply (bar_signal I K c 3 (by decide) _ (dev3_eq c) rfl) $$ [HO Hs3 Hr3]
  · isplitr [HO Hs3 Hr3]; · iexact HI
    isplitl [HO]; · iexact HO
    isplitl [Hs3]; · iexact Hs3
    iexact Hr3
  iintro HO
  iapply (copy_wait c aM xM xS not_recv_x (sendOwe_arrivals c 0) rfl rfl) $$ [Hxc HO]
  · isplitr [Hxc HO]; · iexact Hlev
    isplitl [Hxc]; · iexact Hxc
    iexact HO
  iintro ⟨⟨Hx, Ha⟩, HxS, HO⟩
  iapply (x_load c) $$ [Hx]
  · iexact Hx
  iintro Hx
  simp only [k0_part3_eq_skeleton]; unfold k0_part3_skel
  simp only [semSignalWord, semWaitWord, Prog.lift, Prog.bind_op, Prog.bind_ret, Prog.pure_eq_ret, wp_deviceId]
  iapply (bar_wait I K c rfl (sendOwe_arrivals c 0)) $$ [HO HcB HaB]
  · isplitr [HO HcB HaB]; · iexact Hlev
    isplitr [HO HcB HaB]; · iexact HI
    isplitl [HO]; · iexact HO
    isplitl [HcB]; · iexact HcB
    iexact HaB
  iintro ⟨HO, Hpe, HsB⟩
  ihave ⟨HF0, HF1, HF2, HF3, HF4, HF5⟩ := (fresh_all c) $$ [HP Hpe]
  · isplitl [HP]; · iexact HP
    iexact Hpe
  iapply (w_wait I c 0 0 (sendOwe_arrivals c 0) (wS_of (off := ![0]) (i := 0) rfl) rfl) $$ [Hco HO]
  · isplitr [Hco HO]; · iexact Hlev
    isplitl [Hco]; · iexact Hco
    iexact HO
  iintro ⟨⟨Hb, Hw0, HwS0⟩, HO⟩
  simp only [k0_part4_eq_skeleton]; unfold k0_part4_skel
  simp only [semSignalWord, semWaitWord, Prog.lift, Prog.bind_op, Prog.bind_ret, Prog.pure_eq_ret, wp_deviceId]
  iapply (w_start I c 1 1 (win_of (off := k0_off1 c 2#32 256#32) (off1_eq c 2 1)) (wslot_of (off := ![1, 0, 0]) (i := 1) rfl) (wS_of (off := ![1]) (i := 1) rfl)) $$ [Hb Hw1 HwS1]
  · isplitl [Hb]; · iexact Hb
    isplitl [Hw1]; · iexact Hw1
    iexact HwS1
  iintro Hco
  iapply (load_slot c (fun _ => rfl) squeezes_S1x2048x256_S2048x256 (wslot 0) (wslot_of (off := ![0, 0, 0]) (i := 0) rfl)) $$ [Hw0]
  · iexact Hw0
  iintro Hw0
  iapply (s_load c 0 (hr := fun _ => rfl) (hq := squeezes_S1x512x256_S512x256) (sslot_of (off := ![0, 0, 0]) (t := 0) rfl)) $$ [HF0]
  · iexact HF0
  iintro %_ HF0
  iapply (s_store I c 0 (hr := fun _ => rfl) (hq := squeezes_S1x512x256_S512x256) (sslot_of (off := ![0, 0, 0]) (t := 0) rfl) (pay2_eq _ _ _)) $$ [HF0]
  · iexact HF0
  iintro HF0
  iapply (s_send I K c 0 (dev4_eq c) (sslot_of (off := ![0, 0, 0]) (t := 0) rfl) (part_of (off := k0_off3 c) (s := c) (i := 0) (k0_off3_eq c)) (sendS_of (off := ![0]) (t := 0) rfl) (recvS_of (off := k0_off2 c 0#32) (s := c) (i := 0) (k0_off2_eq c 0))) $$ [HF0 HO]
  · isplitr [HF0 HO]; · iexact HI
    isplitl [HF0]; · iexact HF0
    iexact HO
  iintro ⟨HF0, HO⟩
  ihave Hw0 := (any_of c) $$ Hw0
  simp only [k0_part5_eq_skeleton]; unfold k0_part5_skel
  simp only [semSignalWord, semWaitWord, Prog.lift, Prog.bind_op, Prog.bind_ret, Prog.pure_eq_ret, wp_deviceId]
  iapply (w_wait I c 1 1 (sendOwe_arrivals c 1) (wS_of (off := ![1]) (i := 1) rfl) rfl) $$ [Hco HO]
  · isplitr [Hco HO]; · iexact Hlev
    isplitl [Hco]; · iexact Hco
    iexact HO
  iintro ⟨⟨Hb, Hw1, HwS1⟩, HO⟩
  iapply (w_start I c 2 0 (win_of (off := k0_off1 c 1#32 0#32) (off1_eq c 1 0)) (wslot_of (off := ![0, 0, 0]) (i := 0) rfl) (wS_of (off := ![0]) (i := 0) rfl)) $$ [Hb Hw0 HwS0]
  · isplitl [Hb]; · iexact Hb
    isplitl [Hw0]; · iexact Hw0
    iexact HwS0
  iintro Hco
  iapply (load_slot c (fun _ => rfl) squeezes_S1x2048x256_S2048x256 (wslot 1) (wslot_of (off := ![1, 0, 0]) (i := 1) rfl)) $$ [Hw1]
  · iexact Hw1
  iintro Hw1
  simp only [k0_part6_eq_skeleton]; unfold k0_part6_skel
  simp only [semSignalWord, semWaitWord, Prog.lift, Prog.bind_op, Prog.bind_ret, Prog.pure_eq_ret, wp_deviceId]
  iapply (s_load c 1 (hr := fun _ => rfl) (hq := squeezes_S1x512x256_S512x256) (sslot_of (off := ![1, 0, 0]) (t := 1) rfl)) $$ [HF1]
  · iexact HF1
  iintro %_ HF1
  iapply (s_store I c 1 (hr := fun _ => rfl) (hq := squeezes_S1x512x256_S512x256) (sslot_of (off := ![1, 0, 0]) (t := 1) rfl) (pay4_eq _ _ _)) $$ [HF1]
  · iexact HF1
  iintro HF1
  iapply (s_send I K c 1 (dev5_eq c) (sslot_of (off := ![1, 0, 0]) (t := 1) rfl) (part_of (off := k0_off4 c) (s := c) (i := 1) (k0_off4_eq c)) (sendS_of (off := ![1]) (t := 1) rfl) (recvS_of (off := k0_off2 c 1#32) (s := c) (i := 1) (k0_off2_eq c 1))) $$ [HF1 HO]
  · isplitr [HF1 HO]; · iexact HI
    isplitl [HF1]; · iexact HF1
    iexact HO
  iintro ⟨HF1, HO⟩
  ihave Hw1 := (any_of c) $$ Hw1
  simp only [k0_part7_eq_skeleton]; unfold k0_part7_skel
  simp only [semSignalWord, semWaitWord, Prog.lift, Prog.bind_op, Prog.bind_ret, Prog.pure_eq_ret, wp_deviceId]
  iapply (w_wait I c 2 0 (sendOwe_arrivals c 2) (wS_of (off := ![0]) (i := 0) rfl) rfl) $$ [Hco HO]
  · isplitr [Hco HO]; · iexact Hlev
    isplitl [Hco]; · iexact Hco
    iexact HO
  iintro ⟨⟨Hb, Hw0, HwS0⟩, HO⟩
  iapply (w_start I c 3 1 (win_of (off := k0_off1 c 1#32 256#32) (off1_eq c 1 1)) (wslot_of (off := ![1, 0, 0]) (i := 1) rfl) (wS_of (off := ![1]) (i := 1) rfl)) $$ [Hb Hw1 HwS1]
  · isplitl [Hb]; · iexact Hb
    isplitl [Hw1]; · iexact Hw1
    iexact HwS1
  iintro Hco
  iapply (load_slot c (fun _ => rfl) squeezes_S1x2048x256_S2048x256 (wslot 0) (wslot_of (off := ![0, 0, 0]) (i := 0) rfl)) $$ [Hw0]
  · iexact Hw0
  iintro Hw0
  iapply (s_load c 2 (hr := fun _ => rfl) (hq := squeezes_S1x512x256_S512x256) (sslot_of (off := ![2, 0, 0]) (t := 2) rfl)) $$ [HF2]
  · iexact HF2
  iintro %_ HF2
  simp only [k0_part8_eq_skeleton]; unfold k0_part8_skel
  simp only [semSignalWord, semWaitWord, Prog.lift, Prog.bind_op, Prog.bind_ret, Prog.pure_eq_ret, wp_deviceId]
  iapply (s_store I c 2 (hr := fun _ => rfl) (hq := squeezes_S1x512x256_S512x256) (sslot_of (off := ![2, 0, 0]) (t := 2) rfl) (pay6_eq _ _ _)) $$ [HF2]
  · iexact HF2
  iintro HF2
  iapply (s_send I K c 2 (dev6_eq c) (sslot_of (off := ![2, 0, 0]) (t := 2) rfl) (part_of (off := k0_off3 c) (s := c) (i := 0) (k0_off3_eq c)) (sendS_of (off := ![2]) (t := 2) rfl) (recvS_of (off := k0_off2 c 0#32) (s := c) (i := 0) (k0_off2_eq c 0))) $$ [HF2 HO]
  · isplitr [HF2 HO]; · iexact HI
    isplitl [HF2]; · iexact HF2
    iexact HO
  iintro ⟨HF2, HO⟩
  ihave Hw0 := (any_of c) $$ Hw0
  iapply (w_wait I c 3 1 (sendOwe_arrivals c 3) (wS_of (off := ![1]) (i := 1) rfl) rfl) $$ [Hco HO]
  · isplitr [Hco HO]; · iexact Hlev
    isplitl [Hco]; · iexact Hco
    iexact HO
  iintro ⟨⟨Hb, Hw1, HwS1⟩, HO⟩
  simp only [k0_part9_eq_skeleton]; unfold k0_part9_skel
  simp only [semSignalWord, semWaitWord, Prog.lift, Prog.bind_op, Prog.bind_ret, Prog.pure_eq_ret, wp_deviceId]
  iapply (w_start I c 4 0 (win_of (off := k0_off1 c 3#32 0#32) (off1_eq c 3 0)) (wslot_of (off := ![0, 0, 0]) (i := 0) rfl) (wS_of (off := ![0]) (i := 0) rfl)) $$ [Hb Hw0 HwS0]
  · isplitl [Hb]; · iexact Hb
    isplitl [Hw0]; · iexact Hw0
    iexact HwS0
  iintro Hco
  iapply (load_slot c (fun _ => rfl) squeezes_S1x2048x256_S2048x256 (wslot 1) (wslot_of (off := ![1, 0, 0]) (i := 1) rfl)) $$ [Hw1]
  · iexact Hw1
  iintro Hw1
  iapply (s_load c 3 (hr := fun _ => rfl) (hq := squeezes_S1x512x256_S512x256) (sslot_of (off := ![3, 0, 0]) (t := 3) rfl)) $$ [HF3]
  · iexact HF3
  iintro %_ HF3
  iapply (s_store I c 3 (hr := fun _ => rfl) (hq := squeezes_S1x512x256_S512x256) (sslot_of (off := ![3, 0, 0]) (t := 3) rfl) (pay2_eq _ _ _)) $$ [HF3]
  · iexact HF3
  iintro HF3
  simp only [k0_part10_eq_skeleton]; unfold k0_part10_skel
  simp only [semSignalWord, semWaitWord, Prog.lift, Prog.bind_op, Prog.bind_ret, Prog.pure_eq_ret, wp_deviceId]
  iapply (s_send I K c 3 (dev7_eq c) (sslot_of (off := ![3, 0, 0]) (t := 3) rfl) (part_of (off := k0_off4 c) (s := c) (i := 1) (k0_off4_eq c)) (sendS_of (off := ![3]) (t := 3) rfl) (recvS_of (off := k0_off2 c 1#32) (s := c) (i := 1) (k0_off2_eq c 1))) $$ [HF3 HO]
  · isplitr [HF3 HO]; · iexact HI
    isplitl [HF3]; · iexact HF3
    iexact HO
  iintro ⟨HF3, HO⟩
  ihave Hw1 := (any_of c) $$ Hw1
  iapply (w_wait I c 4 0 (sendOwe_arrivals c 4) (wS_of (off := ![0]) (i := 0) rfl) rfl) $$ [Hco HO]
  · isplitr [Hco HO]; · iexact Hlev
    isplitl [Hco]; · iexact Hco
    iexact HO
  iintro ⟨⟨Hb, Hw0, HwS0⟩, HO⟩
  simp only [k0_part11_eq_skeleton]; unfold k0_part11_skel
  simp only [semSignalWord, semWaitWord, Prog.lift, Prog.bind_op, Prog.bind_ret, Prog.pure_eq_ret, wp_deviceId]
  iapply (w_start I c 5 1 (win_of (off := k0_off1 c 3#32 256#32) (off1_eq c 3 1)) (wslot_of (off := ![1, 0, 0]) (i := 1) rfl) (wS_of (off := ![1]) (i := 1) rfl)) $$ [Hb Hw1 HwS1]
  · isplitl [Hb]; · iexact Hb
    isplitl [Hw1]; · iexact Hw1
    iexact HwS1
  iintro Hco
  iapply (load_slot c (fun _ => rfl) squeezes_S1x2048x256_S2048x256 (wslot 0) (wslot_of (off := ![0, 0, 0]) (i := 0) rfl)) $$ [Hw0]
  · iexact Hw0
  iintro Hw0
  iapply (s_load c 4 (hr := fun _ => rfl) (hq := squeezes_S1x512x256_S512x256) (sslot_of (off := ![4, 0, 0]) (t := 4) rfl)) $$ [HF4]
  · iexact HF4
  iintro %_ HF4
  iapply (s_store I c 4 (hr := fun _ => rfl) (hq := squeezes_S1x512x256_S512x256) (sslot_of (off := ![4, 0, 0]) (t := 4) rfl) (pay2_eq _ _ _)) $$ [HF4]
  · iexact HF4
  iintro HF4
  simp only [k0_part12_eq_skeleton]; unfold k0_part12_skel
  simp only [semSignalWord, semWaitWord, Prog.lift, Prog.bind_op, Prog.bind_ret, Prog.pure_eq_ret, wp_deviceId]
  iapply (s_send I K c 4 (dev8_eq c) (sslot_of (off := ![4, 0, 0]) (t := 4) rfl) (part_of (off := k0_off3 c) (s := c) (i := 0) (k0_off3_eq c)) (sendS_of (off := ![4]) (t := 4) rfl) (recvS_of (off := k0_off2 c 0#32) (s := c) (i := 0) (k0_off2_eq c 0))) $$ [HF4 HO]
  · isplitr [HF4 HO]; · iexact HI
    isplitl [HF4]; · iexact HF4
    iexact HO
  iintro ⟨HF4, HO⟩
  ihave Hw0 := (any_of c) $$ Hw0
  iapply (w_wait I c 5 1 (sendOwe_arrivals c 5) (wS_of (off := ![1]) (i := 1) rfl) rfl) $$ [Hco HO]
  · isplitr [Hco HO]; · iexact Hlev
    isplitl [Hco]; · iexact Hco
    iexact HO
  iintro ⟨⟨Hb, Hw1, HwS1⟩, HO⟩
  simp only [k0_part13_eq_skeleton]; unfold k0_part13_skel
  simp only [semSignalWord, semWaitWord, Prog.lift, Prog.bind_op, Prog.bind_ret, Prog.pure_eq_ret, wp_deviceId]
  iapply (w_start I c 6 0 (win_of (off := k0_off1 c 0#32 0#32) (off1_eq c 0 0)) (wslot_of (off := ![0, 0, 0]) (i := 0) rfl) (wS_of (off := ![0]) (i := 0) rfl)) $$ [Hb Hw0 HwS0]
  · isplitl [Hb]; · iexact Hb
    isplitl [Hw0]; · iexact Hw0
    iexact HwS0
  iintro Hco
  iapply (load_slot c (fun _ => rfl) squeezes_S1x2048x256_S2048x256 (wslot 1) (wslot_of (off := ![1, 0, 0]) (i := 1) rfl)) $$ [Hw1]
  · iexact Hw1
  iintro Hw1
  iapply (s_load c 5 (hr := fun _ => rfl) (hq := squeezes_S1x512x256_S512x256) (sslot_of (off := ![5, 0, 0]) (t := 5) rfl)) $$ [HF5]
  · iexact HF5
  iintro %_ HF5
  iapply (s_store I c 5 (hr := fun _ => rfl) (hq := squeezes_S1x512x256_S512x256) (sslot_of (off := ![5, 0, 0]) (t := 5) rfl) (pay2_eq _ _ _)) $$ [HF5]
  · iexact HF5
  iintro HF5
  iapply (s_send I K c 5 (dev9_eq c) (sslot_of (off := ![5, 0, 0]) (t := 5) rfl) (part_of (off := k0_off4 c) (s := c) (i := 1) (k0_off4_eq c)) (sendS_of (off := ![5]) (t := 5) rfl) (recvS_of (off := k0_off2 c 1#32) (s := c) (i := 1) (k0_off2_eq c 1))) $$ [HF5 HO]
  · isplitr [HF5 HO]; · iexact HI
    isplitl [HF5]; · iexact HF5
    iexact HO
  iintro ⟨HF5, HO⟩
  ihave Hw1 := (any_of c) $$ Hw1
  ihave HO := (owes_six c) $$ HO
  ihave ⟨⟨HG0, HG1⟩, Ho0⟩ := (own_begin c) $$ HG
  simp only [k0_part14_eq_skeleton]; unfold k0_part14_skel
  simp only [semSignalWord, semWaitWord, Prog.lift, Prog.bind_op, Prog.bind_ret, Prog.pure_eq_ret, wp_deviceId]
  iapply (w_wait I c 6 0 arrivals_zero (wS_of (off := ![0]) (i := 0) rfl) rfl) $$ [Hco HO]
  · isplitr [Hco HO]; · iexact Hlev
    isplitl [Hco]; · iexact Hco
    iexact HO
  iintro ⟨⟨Hb, Hw0, HwS0⟩, HO⟩
  iapply (w_start I c 7 1 (win_of (off := k0_off1 c 0#32 256#32) (off1_eq c 0 1)) (wslot_of (off := ![1, 0, 0]) (i := 1) rfl) (wS_of (off := ![1]) (i := 1) rfl)) $$ [Hb Hw1 HwS1]
  · isplitl [Hb]; · iexact Hb
    isplitl [Hw1]; · iexact Hw1
    iexact HwS1
  iintro Hco
  iapply (load_slot c (fun _ => rfl) squeezes_S1x2048x256_S2048x256 (wslot 0) (wslot_of (off := ![0, 0, 0]) (i := 0) rfl)) $$ [Hw0]
  · iexact Hw0
  iintro Hw0
  simp only [k0_part15_eq_skeleton]; unfold k0_part15_skel
  simp only [semSignalWord, semWaitWord, Prog.lift, Prog.bind_op, Prog.bind_ret, Prog.pure_eq_ret, wp_deviceId]
  iapply (load_dead c (fun _ => rfl) squeezes_S1x512x256_S512x256 (part gM c 0) (part_of (off := k0_off5 c) (s := c) (i := 0) (k0_off5_eq c))) $$ [HG0]
  · iexact HG0
  iintro %_ HG0
  iapply (store_slot c (fun _ => rfl) squeezes_S1x512x256_S512x256 (part gM c 0) (part_of (off := k0_off5 c) (s := c) (i := 0) (k0_off5_eq c)) (Yf I c c 0) (own_eq0 I c)) $$ [HG0]
  · iexact HG0
  iintro HG0
  ihave Hw0 := (any_of c) $$ Hw0
  iapply (w_wait I c 7 1 arrivals_zero (wS_of (off := ![1]) (i := 1) rfl) rfl) $$ [Hco HO]
  · isplitr [Hco HO]; · iexact Hlev
    isplitl [Hco]; · iexact Hco
    iexact HO
  iintro ⟨⟨Hb, Hw1, HwS1⟩, HO⟩
  iapply (load_slot c (fun _ => rfl) squeezes_S1x2048x256_S2048x256 (wslot 1) (wslot_of (off := ![1, 0, 0]) (i := 1) rfl)) $$ [Hw1]
  · iexact Hw1
  iintro Hw1
  simp only [k0_part16_eq_skeleton]; unfold k0_part16_skel
  simp only [semSignalWord, semWaitWord, Prog.lift, Prog.bind_op, Prog.bind_ret, Prog.pure_eq_ret, wp_deviceId]
  iapply (load_dead c (fun _ => rfl) squeezes_S1x512x256_S512x256 (part gM c 1) (part_of (off := k0_off6 c) (s := c) (i := 1) (k0_off6_eq c))) $$ [HG1]
  · iexact HG1
  iintro %_ HG1
  iapply (store_slot c (fun _ => rfl) squeezes_S1x512x256_S512x256 (part gM c 1) (part_of (off := k0_off6 c) (s := c) (i := 1) (k0_off6_eq c)) (Yf I c c 1) (own_eq1 I c)) $$ [HG1]
  · iexact HG1
  iintro HG1
  ihave Hw1 := (any_of c) $$ Hw1
  ihave HG := (own_end I c) $$ [HG0 HG1]
  · isplitl [HG0]; · iexact HG0
    iexact HG1
  iapply (o_start I c c (slot_of (off := k0_off9 c) (s := c) (k0_off9_eq c)) (orows_of (off := k0_off8 c) (s := c) (k0_off8_eq c)) (outS_of (off := k0_off7 c) (s := c) (k0_off7_eq c))) $$ [HG Ho0]
  · isplitl [HG]; · iexact HG
    iexact Ho0
  iintro Ho0
  icases HI1 with ⟨He0, He1, HG, Ho1⟩
  iapply (r_wait I K c (step c 1) 0 (step_ne c 1 (by decide)) (recvS_of (off := k0_off10 c 1#32 0#32) (s := step c 1) (i := 0) (off10_eq c 0 0)) (part_of (off := k0_off11 c 1#32) (s := step c 1) (i := 0) (off11_eq c 0))) $$ [He0 HO]
  · isplitr [He0 HO]; · iexact Hlev
    isplitr [He0 HO]; · iexact HI
    isplitl [He0]; · iexact He0
    iexact HO
  iintro ⟨He0, HO⟩
  simp only [k0_part17_eq_skeleton]; unfold k0_part17_skel
  simp only [semSignalWord, semWaitWord, Prog.lift, Prog.bind_op, Prog.bind_ret, Prog.pure_eq_ret, wp_deviceId]
  iapply (r_wait I K c (step c 1) 1 (step_ne c 1 (by decide)) (recvS_of (off := k0_off10 c 1#32 1#32) (s := step c 1) (i := 1) (off10_eq c 0 1)) (part_of (off := k0_off12 c 1#32) (s := step c 1) (i := 1) (off12_eq c 0))) $$ [He1 HO]
  · isplitr [He1 HO]; · iexact Hlev
    isplitr [He1 HO]; · iexact HI
    isplitl [He1]; · iexact He1
    iexact HO
  iintro ⟨He1, HO⟩
  ihave ⟨HL, HrS1⟩ := (landed I c (step c 1)) $$ [He0 He1]
  · isplitl [He0]; · iexact He0
    iexact He1
  iapply (load_slot c (fun _ => rfl) squeezes_S1x512x512_S512x512 (slot rM (step c 1)) (slot_of (off := k0_off13 c 1#32) (s := step c 1) (off13_eq c 0))) $$ [HL]
  · iexact HL
  iintro HL
  ihave HL1 := (any_of c) $$ HL
  iapply (load_dead c (fun _ => rfl) squeezes_S1x512x512_S512x512 (gslot (step c 1)) (slot_of (off := k0_off13 c 1#32) (s := step c 1) (off13_eq c 0))) $$ [HG]
  · iexact HG
  iintro %_ HG
  iapply (store_slot c (fun _ => rfl) squeezes_S1x512x512_S512x512 (gslot (step c 1)) (slot_of (off := k0_off13 c 1#32) (s := step c 1) (off13_eq c 0)) (Z I c (step c 1)) (inb_eq I c 1 (by decide))) $$ [HG]
  · iexact HG
  iintro HG
  iapply (o_start I c (step c 1) (slot_of (off := k0_off16 c 1#32) (s := (step c 1)) (off16_eq c 0)) (orows_of (off := k0_off15 c 1#32) (s := (step c 1)) (off15_eq c 0)) (outS_of (off := k0_off14 c 1#32) (s := (step c 1)) (off14_eq c 0))) $$ [HG Ho1]
  · isplitl [HG]; · iexact HG
    iexact Ho1
  iintro Ho1
  simp only [k0_part18_eq_skeleton]; unfold k0_part18_skel
  simp only [semSignalWord, semWaitWord, Prog.lift, Prog.bind_op, Prog.bind_ret, Prog.pure_eq_ret, wp_deviceId]
  icases HI3 with ⟨He0, He1, HG, Ho3⟩
  iapply (r_wait I K c (step c 3) 0 (step_ne c 3 (by decide)) (recvS_of (off := k0_off10 c 3#32 0#32) (s := step c 3) (i := 0) (off10_eq c 2 0)) (part_of (off := k0_off11 c 3#32) (s := step c 3) (i := 0) (off11_eq c 2))) $$ [He0 HO]
  · isplitr [He0 HO]; · iexact Hlev
    isplitr [He0 HO]; · iexact HI
    isplitl [He0]; · iexact He0
    iexact HO
  iintro ⟨He0, HO⟩
  iapply (r_wait I K c (step c 3) 1 (step_ne c 3 (by decide)) (recvS_of (off := k0_off10 c 3#32 1#32) (s := step c 3) (i := 1) (off10_eq c 2 1)) (part_of (off := k0_off12 c 3#32) (s := step c 3) (i := 1) (off12_eq c 2))) $$ [He1 HO]
  · isplitr [He1 HO]; · iexact Hlev
    isplitr [He1 HO]; · iexact HI
    isplitl [He1]; · iexact He1
    iexact HO
  iintro ⟨He1, HO⟩
  ihave ⟨HL, HrS3⟩ := (landed I c (step c 3)) $$ [He0 He1]
  · isplitl [He0]; · iexact He0
    iexact He1
  iapply (load_slot c (fun _ => rfl) squeezes_S1x512x512_S512x512 (slot rM (step c 3)) (slot_of (off := k0_off13 c 3#32) (s := step c 3) (off13_eq c 2))) $$ [HL]
  · iexact HL
  iintro HL
  ihave HL3 := (any_of c) $$ HL
  iapply (load_dead c (fun _ => rfl) squeezes_S1x512x512_S512x512 (gslot (step c 3)) (slot_of (off := k0_off13 c 3#32) (s := step c 3) (off13_eq c 2))) $$ [HG]
  · iexact HG
  iintro %_ HG
  iapply (store_slot c (fun _ => rfl) squeezes_S1x512x512_S512x512 (gslot (step c 3)) (slot_of (off := k0_off13 c 3#32) (s := step c 3) (off13_eq c 2)) (Z I c (step c 3)) (inb_eq I c 3 (by decide))) $$ [HG]
  · iexact HG
  iintro HG
  simp only [k0_part19_eq_skeleton]; unfold k0_part19_skel
  simp only [semSignalWord, semWaitWord, Prog.lift, Prog.bind_op, Prog.bind_ret, Prog.pure_eq_ret, wp_deviceId]
  iapply (o_start I c (step c 3) (slot_of (off := k0_off16 c 3#32) (s := (step c 3)) (off16_eq c 2)) (orows_of (off := k0_off15 c 3#32) (s := (step c 3)) (off15_eq c 2)) (outS_of (off := k0_off14 c 3#32) (s := (step c 3)) (off14_eq c 2))) $$ [HG Ho3]
  · isplitl [HG]; · iexact HG
    iexact Ho3
  iintro Ho3
  icases HI2 with ⟨He0, He1, HG, Ho2⟩
  iapply (r_wait I K c (step c 2) 0 (step_ne c 2 (by decide)) (recvS_of (off := k0_off10 c 2#32 0#32) (s := step c 2) (i := 0) (off10_eq c 1 0)) (part_of (off := k0_off11 c 2#32) (s := step c 2) (i := 0) (off11_eq c 1))) $$ [He0 HO]
  · isplitr [He0 HO]; · iexact Hlev
    isplitr [He0 HO]; · iexact HI
    isplitl [He0]; · iexact He0
    iexact HO
  iintro ⟨He0, HO⟩
  simp only [k0_part20_eq_skeleton]; unfold k0_part20_skel
  simp only [semSignalWord, semWaitWord, Prog.lift, Prog.bind_op, Prog.bind_ret, Prog.pure_eq_ret, wp_deviceId]
  iapply (r_wait I K c (step c 2) 1 (step_ne c 2 (by decide)) (recvS_of (off := k0_off10 c 2#32 1#32) (s := step c 2) (i := 1) (off10_eq c 1 1)) (part_of (off := k0_off12 c 2#32) (s := step c 2) (i := 1) (off12_eq c 1))) $$ [He1 HO]
  · isplitr [He1 HO]; · iexact Hlev
    isplitr [He1 HO]; · iexact HI
    isplitl [He1]; · iexact He1
    iexact HO
  iintro ⟨He1, HO⟩
  ihave ⟨HL, HrS2⟩ := (landed I c (step c 2)) $$ [He0 He1]
  · isplitl [He0]; · iexact He0
    iexact He1
  iapply (load_slot c (fun _ => rfl) squeezes_S1x512x512_S512x512 (slot rM (step c 2)) (slot_of (off := k0_off13 c 2#32) (s := step c 2) (off13_eq c 1))) $$ [HL]
  · iexact HL
  iintro HL
  ihave HL2 := (any_of c) $$ HL
  iapply (load_dead c (fun _ => rfl) squeezes_S1x512x512_S512x512 (gslot (step c 2)) (slot_of (off := k0_off13 c 2#32) (s := step c 2) (off13_eq c 1))) $$ [HG]
  · iexact HG
  iintro %_ HG
  iapply (store_slot c (fun _ => rfl) squeezes_S1x512x512_S512x512 (gslot (step c 2)) (slot_of (off := k0_off13 c 2#32) (s := step c 2) (off13_eq c 1)) (Z I c (step c 2)) (inb_eq I c 2 (by decide))) $$ [HG]
  · iexact HG
  iintro HG
  iapply (o_start I c (step c 2) (slot_of (off := k0_off16 c 2#32) (s := (step c 2)) (off16_eq c 1)) (orows_of (off := k0_off15 c 2#32) (s := (step c 2)) (off15_eq c 1)) (outS_of (off := k0_off14 c 2#32) (s := (step c 2)) (off14_eq c 1))) $$ [HG Ho2]
  · isplitl [HG]; · iexact HG
    iexact Ho2
  iintro Ho2
  iapply (s_wait I K c 0 (sendS_of (off := ![0]) (t := 0) rfl) (sslot_of (off := ![0, 0, 0]) (t := 0) rfl)) $$ [HF0 HO]
  · isplitr [HF0 HO]; · iexact Hlev
    isplitr [HF0 HO]; · iexact HI
    isplitl [HF0]; · iexact HF0
    iexact HO
  iintro ⟨HF0, HO⟩
  iapply (s_wait I K c 1 (sendS_of (off := ![1]) (t := 1) rfl) (sslot_of (off := ![1, 0, 0]) (t := 1) rfl)) $$ [HF1 HO]
  · isplitr [HF1 HO]; · iexact Hlev
    isplitr [HF1 HO]; · iexact HI
    isplitl [HF1]; · iexact HF1
    iexact HO
  iintro ⟨HF1, HO⟩
  simp only [k0_part21_eq_skeleton]; unfold k0_part21_skel
  simp only [semSignalWord, semWaitWord, Prog.lift, Prog.bind_op, Prog.bind_ret, Prog.pure_eq_ret, wp_deviceId]
  iapply (s_wait I K c 2 (sendS_of (off := ![2]) (t := 2) rfl) (sslot_of (off := ![2, 0, 0]) (t := 2) rfl)) $$ [HF2 HO]
  · isplitr [HF2 HO]; · iexact Hlev
    isplitr [HF2 HO]; · iexact HI
    isplitl [HF2]; · iexact HF2
    iexact HO
  iintro ⟨HF2, HO⟩
  iapply (s_wait I K c 3 (sendS_of (off := ![3]) (t := 3) rfl) (sslot_of (off := ![3, 0, 0]) (t := 3) rfl)) $$ [HF3 HO]
  · isplitr [HF3 HO]; · iexact Hlev
    isplitr [HF3 HO]; · iexact HI
    isplitl [HF3]; · iexact HF3
    iexact HO
  iintro ⟨HF3, HO⟩
  iapply (s_wait I K c 4 (sendS_of (off := ![4]) (t := 4) rfl) (sslot_of (off := ![4, 0, 0]) (t := 4) rfl)) $$ [HF4 HO]
  · isplitr [HF4 HO]; · iexact Hlev
    isplitr [HF4 HO]; · iexact HI
    isplitl [HF4]; · iexact HF4
    iexact HO
  iintro ⟨HF4, HO⟩
  iapply (s_wait I K c 5 (sendS_of (off := ![5]) (t := 5) rfl) (sslot_of (off := ![5, 0, 0]) (t := 5) rfl)) $$ [HF5 HO]
  · isplitr [HF5 HO]; · iexact Hlev
    isplitr [HF5 HO]; · iexact HI
    isplitl [HF5]; · iexact HF5
    iexact HO
  iintro ⟨HF5, HO⟩
  ihave ⟨Ho0, Ho1, Ho2, Ho3⟩ := (by_number I c) $$ [Ho0 Ho1 Ho2 Ho3]
  · isplitl [Ho0]; · iexact Ho0
    isplitl [Ho1]; · iexact Ho1
    isplitl [Ho2]; · iexact Ho2
    iexact Ho3
  iapply (o_wait I c 0 (outS_of (off := ![0]) (s := 0) rfl) rfl) $$ [Ho0 HO]
  · isplitr [Ho0 HO]; · iexact Hlev
    isplitl [Ho0]; · iexact Ho0
    iexact HO
  iintro ⟨Ho0, HO⟩
  iapply (o_wait I c 1 (outS_of (off := ![1]) (s := 1) rfl) rfl) $$ [Ho1 HO]
  · isplitr [Ho1 HO]; · iexact Hlev
    isplitl [Ho1]; · iexact Ho1
    iexact HO
  iintro ⟨Ho1, HO⟩
  iapply (o_wait I c 2 (outS_of (off := ![2]) (s := 2) rfl) rfl) $$ [Ho2 HO]
  · isplitr [Ho2 HO]; · iexact Hlev
    isplitl [Ho2]; · iexact Ho2
    iexact HO
  iintro ⟨Ho2, HO⟩
  iapply (o_wait I c 3 (outS_of (off := ![3]) (s := 3) rfl) rfl) $$ [Ho3 HO]
  · isplitr [Ho3 HO]; · iexact Hlev
    isplitl [Ho3]; · iexact Ho3
    iexact HO
  iintro ⟨Ho3, HO⟩
  iapply (ret_intro c)
  iapply Hk
  ihave Hx := (any_of c) $$ Hx
  unfold Post Rows Weights Landed
  isplitl [HO]; · iexact HO
  isplitl [Ha Hx HxS]
  · isplitl [Ha]; · iexact Ha
    isplitl [Hx]; · iexact Hx
    iexact HxS
  isplitl [Hb Hw0 Hw1 HwS0 HwS1]
  · isplitl [Hb]; · iexact Hb
    isplitl [Hw0 Hw1]
    · isplitl [Hw0]; · iexact Hw0
      iexact Hw1
    isplitl [HwS0]; · iexact HwS0
    iexact HwS1
  isplitl [HsB]; · iexact HsB
  isplitl [HF0 HF1 HF2 HF3 HF4 HF5]
  · isplitl [HF0]; · iexact HF0
    isplitl [HF1]; · iexact HF1
    isplitl [HF2]; · iexact HF2
    isplitl [HF3]; · iexact HF3
    isplitl [HF4]; · iexact HF4
    iexact HF5
  isplitl [HL1 HrS1 HL2 HrS2 HL3 HrS3]
  · isplitl [HL1 HrS1]
    · isplitl [HL1]; · iexact HL1
      iexact HrS1
    isplitl [HL2 HrS2]
    · isplitl [HL2]; · iexact HL2
      iexact HrS2
    isplitl [HL3]; · iexact HL3
    iexact HrS3
  isplitl [Ho0]; · iexact Ho0
  isplitl [Ho1]; · iexact Ho1
  isplitl [Ho2]; · iexact Ho2
  iexact Ho3

end Cert.KernelIdeal.Talk

end
-- ==== Proof.KernelIdeal.Deal.lean ====
/-
# What is dealt to a device, and what it gives back

Whole buffers and indexed families on the one side; on the other what the body (`Body`) starts from and ends with.
-/
module

public import proofs.«01_k».proof.Proof.KernelIdeal.Body

@[expose] public section

noncomputable section

namespace Cert.KernelIdeal.Talk

open Cert.KernelIdeal Cert.KernelIdeal.Gen
open Idealize.ShloMosaic Idealize.ShloMosaic.TcCoe Idealize.ShloMosaic.Rounds Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inputs F) (K : Dev nD × CIx → ℕ) (c : Dev nD)

/-! ## The families -/

/-- The semaphores of the kernel's own: of the copy of `x`, of the fetches, of the sendings, the arrivals, the copies to the result. -/
abbrev OIx : Type := Unit ⊕ Fin 2 ⊕ Fin 6 ⊕ (Dev nD × Fin 2) ⊕ Dev nD
/-- Which one. -/
def osem : OIx → SemLoc sig
  | .inl _ => .dma xS
  | .inr (.inl i) => .dma (wS i)
  | .inr (.inr (.inl t)) => .dma (sendS t)
  | .inr (.inr (.inr (.inl q))) => .dma (recvS q.1 q.2)
  | .inr (.inr (.inr (.inr s))) => .dma (outS s)

/-- What a device pays: a signal to each device, then for each chunk the end of its sending and its arrival. -/
abbrev TIx : Type := Fin 4 ⊕ Fin 6 ⊕ Fin 6
/-- The cell that it pays to. -/
def tokCell (c : Dev nD) : TIx → Dev nD × CIx
  | .inl r => (step c r, .inl ())
  | .inr (.inl t) => (c, .inr (.inl t))
  | .inr (.inr t) => (step c (hop (ch t)), .inr (.inr (c, half (ch t))))

/-- The device's positions at its own cells, -/
def Positions : sProp 𝕄 := bigSep Finset.univ fun i : CIx => atPos ER (cell c i) 0 ∅ 0
/-- its tokens, -/
def Toks : sProp 𝕄 := bigSep Finset.univ fun j : TIx => dutyTok ER (cell (tokCell c j).1 (tokCell c j).2) 0 c
/-- its credits, -/
def Creds : sProp 𝕄 :=
  iprop(cred (tallyAt (barCell c) () 3) ∗ bigSep Finset.univ fun s : Dev nD => bigSep Finset.univ fun h : Fin 2 => cred (tallyAt (recvCell c s h) () (if s = c then 0 else N)))
/-- the semaphores that only its own copies use, -/
def Spare : sProp 𝕄 :=
  iprop(semVal ((c : Thread nD τ), .dma xS) 0 ∗ (bigSep Finset.univ fun i : Fin 2 => semVal ((c : Thread nD τ), .dma (wS i)) 0)
    ∗ bigSep Finset.univ fun s : Dev nD => semVal ((c : Thread nD τ), .dma (outS s)) 0)
/-- its scratch buffers, -/
def Scratch : sProp 𝕄 := iprop(ownAny c xM ∗ ownAny c wM ∗ ownAny c sM ∗ ownAny c rM ∗ ownAny c gM)
/-- its arguments. -/
def Args : sProp 𝕄 := iprop(own c aM (I.x c) ∗ own c bM (I.w c))

/-- What the body does not touch: the landing slot of the device's own block and the positions at its two cells. -/
def Kept : sProp 𝕄 := iprop(ownAny c (slot rM c) ∗ atPos ER (recvCell c c 0) 0 ∅ 0 ∗ atPos ER (recvCell c c 1) 0 ∅ 0)

theorem two (Φ : Fin 2 → sProp 𝕄) : bigSep Finset.univ Φ = iprop(Φ 0 ∗ Φ 1) := bigSep_univ_eq_bigSepL [0, 1] (by decide) (by decide) Φ
theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem one (Φ : Unit → sProp 𝕄) : bigSep Finset.univ Φ = Φ () := bigSep_univ_eq_bigSepL [()] (by decide) (by decide) Φ

/-- A family over the devices, from `c` on. -/
theorem around (Φ : Dev nD → sProp 𝕄) : bigSep Finset.univ Φ = iprop(Φ c ∗ Φ (step c 1) ∗ Φ (step c 2) ∗ Φ (step c 3)) := by
  have h := gather (F := F) c Φ
  rw [step_zero] at h
  exact h

/-! ## Buffers and their slots -/

section Squeeze
variable {sp : Space} {s s' : Shape} {e : EltTy} (v : Memref sig .tc sp s e) (hq : s.Squeezes s')

/-- Dropping an axis of one changes nothing of the ownership. -/
theorem any_squeeze : ownAny c v ⊢ (ownAny c (v.squeeze s' hq) : sProp 𝕄) := by
  iintro ⟨%X, H⟩
  iexists (shapeCast s' X hq.numel_eq)
  rw [own_squeeze, shapeCast_shapeCast]
  iexact H
theorem any_unsqueeze : ownAny c (v.squeeze s' hq) ⊢ (ownAny c v : sProp 𝕄) := by
  iintro ⟨%X, H⟩
  iexists (shapeCast s X hq.numel_eq.symm)
  ihave H := (Entails.of_eq (own_squeeze c v hq X)) $$ H
  iexact H
end Squeeze

theorem wM_split : ownAny c wM ⊢ (iprop(ownAny c (wslot 0) ∗ ownAny c (wslot 1)) : sProp 𝕄) := by
  rw [← two (F := F) fun i => ownAny c (wslot i)]
  exact (any_split c wM wslotR (fun _ _ => rfl) wslot_disjoint wslot_cover).trans (bigSep_mono fun i _ => any_squeeze c _ squeezes_S1x2048x256_S2048x256)
theorem sM_split : ownAny c sM ⊢ (iprop(ownAny c (sslot 0) ∗ ownAny c (sslot 1) ∗ ownAny c (sslot 2) ∗ ownAny c (sslot 3) ∗ ownAny c (sslot 4) ∗ ownAny c (sslot 5)) : sProp 𝕄) := by
  rw [← six (F := F) fun t => ownAny c (sslot t)]
  exact (any_split c sM sslotR (fun _ _ => rfl) sslot_disjoint sslot_cover).trans (bigSep_mono fun i _ => any_squeeze c _ squeezes_S1x512x256_S512x256)
theorem slots_split {e : EltTy} (M : Memref sig .tc .vmem S4x512x512 e) :
    ownAny c M ⊢ (iprop(ownAny c (slot M c) ∗ ownAny c (slot M (step c 1)) ∗ ownAny c (slot M (step c 2)) ∗ ownAny c (slot M (step c 3))) : sProp 𝕄) := by
  rw [← around (F := F) c fun s => ownAny c (slot M s)]
  exact (any_split c M slotR (fun _ _ => rfl) slot_disjoint slot_cover).trans (bigSep_mono fun i _ => any_squeeze c _ squeezes_S1x512x512_S512x512)
theorem oM_split : ownAny c oM ⊢ (iprop(ownAny c (orows c) ∗ ownAny c (orows (step c 1)) ∗ ownAny c (orows (step c 2)) ∗ ownAny c (orows (step c 3))) : sProp 𝕄) := by
  rw [← around (F := F) c fun s => ownAny c (orows s)]
  exact any_split c oM rowsR (fun _ _ => rfl) rows_disjoint rows_cover

section Join
variable [∀ e, Nonempty (Elt F e)]
theorem wM_join : iprop(ownAny c (wslot 0) ∗ ownAny c (wslot 1)) ⊢ (ownAny c wM : sProp 𝕄) := by
  rw [← two (F := F) fun i => ownAny c (wslot i)]
  exact (bigSep_mono fun i _ => any_unsqueeze c _ squeezes_S1x2048x256_S2048x256).trans (any_join c wM wslotR (fun _ _ => rfl) wslot_disjoint wslot_cover)
theorem sM_join : iprop(ownAny c (sslot 0) ∗ ownAny c (sslot 1) ∗ ownAny c (sslot 2) ∗ ownAny c (sslot 3) ∗ ownAny c (sslot 4) ∗ ownAny c (sslot 5)) ⊢ (ownAny c sM : sProp 𝕄) := by
  rw [← six (F := F) fun t => ownAny c (sslot t)]
  exact (bigSep_mono fun i _ => any_unsqueeze c _ squeezes_S1x512x256_S512x256).trans (any_join c sM sslotR (fun _ _ => rfl) sslot_disjoint sslot_cover)
theorem slots_join {e : EltTy} (M : Memref sig .tc .vmem S4x512x512 e) : (bigSep Finset.univ fun s => ownAny c (slot M s)) ⊢ (ownAny c M : sProp 𝕄) :=
  (bigSep_mono fun i _ => any_unsqueeze c _ squeezes_S1x512x512_S512x512).trans (any_join c M slotR (fun _ _ => rfl) slot_disjoint slot_cover)

/-- The whole result on `c`: row block `s` is the block that came from `s`. -/
def Zall : S2048x512.Idx → Elt F .f32 := fun i =>
  Z I c ⟨(i 0).val / 512, by have : (i 0).val < 2048 := (i 0).isLt; have : nD = 4 := rfl; omega⟩ (ix2 ⟨(i 0).val % 512, Nat.mod_lt _ (by decide)⟩ (i 1))
theorem Zall_rows (s : Dev nD) (j : S512x512.Idx) : Zall I c ((rowsR s).emb j) = Z I c s j := by
  have h₀ : (j 0).val < 512 := (j 0).isLt
  have e₀ : (((rowsR s).emb j) 0).val = 512 * s.val + (j 0).val := by show 512 * s.val + 1 * (j 0).val = _; omega
  have e₁ : (((rowsR s).emb j) 1).val = (j 1).val := by show 0 + 1 * (j 1).val = _; omega
  unfold Zall
  congr 1
  · exact Fin.ext (by show (((rowsR s).emb j) 0).val / 512 = _; rw [e₀]; omega)
  · funext a
    refine Fin.ext ?_
    fin_cases a
    · show (((rowsR s).emb j) 0).val % 512 = (j 0).val
      rw [e₀]; omega
    · exact e₁
theorem oM_join : (bigSep Finset.univ fun s => own c (orows s) (Z I c s)) ⊢ (own c oM (Zall I c) : sProp 𝕄) :=
  own_join c oM rowsR (fun _ _ => rfl) rows_disjoint rows_cover (fun s => Z I c s) (Zall I c) (Zall_rows I c)
end Join

/-! ## The families of cells -/

theorem positions_eq : Positions c = (iprop(atPos ER (barCell c) 0 ∅ 0
      ∗ (atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0)
      ∗ (atPos ER (recvCell c c 0) 0 ∅ 0 ∗ atPos ER (recvCell c c 1) 0 ∅ 0) ∗ (atPos ER (recvCell c (step c 1) 0) 0 ∅ 0 ∗ atPos ER (recvCell c (step c 1) 1) 0 ∅ 0)
      ∗ (atPos ER (recvCell c (step c 2) 0) 0 ∅ 0 ∗ atPos ER (recvCell c (step c 2) 1) 0 ∅ 0) ∗ (atPos ER (recvCell c (step c 3) 0) 0 ∅ 0 ∗ atPos ER (recvCell c (step c 3) 1) 0 ∅ 0)) : sProp 𝕄) := by
  unfold Positions
  rw [bigSep_univ_sum, bigSep_univ_sum, one, six, bigSep_univ_prod, around (F := F) c]
  simp only [two]
  rfl
theorem toks_eq : Toks c = (iprop((dutyTok ER (barCell (step c 0)) 0 c ∗ dutyTok ER (barCell (step c 1)) 0 c ∗ dutyTok ER (barCell (step c 2)) 0 c ∗ dutyTok ER (barCell (step c 3)) 0 c)
      ∗ (dutyTok ER (sendCell c 0) 0 c ∗ dutyTok ER (sendCell c 1) 0 c ∗ dutyTok ER (sendCell c 2) 0 c ∗ dutyTok ER (sendCell c 3) 0 c ∗ dutyTok ER (sendCell c 4) 0 c ∗ dutyTok ER (sendCell c 5) 0 c)
      ∗ (dutyTok ER (recvCell (step c (hop (ch 0))) c (half (ch 0))) 0 c ∗ dutyTok ER (recvCell (step c (hop (ch 1))) c (half (ch 1))) 0 c
        ∗ dutyTok ER (recvCell (step c (hop (ch 2))) c (half (ch 2))) 0 c ∗ dutyTok ER (recvCell (step c (hop (ch 3))) c (half (ch 3))) 0 c
        ∗ dutyTok ER (recvCell (step c (hop (ch 4))) c (half (ch 4))) 0 c ∗ dutyTok ER (recvCell (step c (hop (ch 5))) c (half (ch 5))) 0 c)) : sProp 𝕄) := by
  unfold Toks
  rw [bigSep_univ_sum, bigSep_univ_sum, four, six, six]
  rfl

/-- The two credits at the arrivals from another device. -/
theorem credits_two (r : Fin 4) (hr : r ≠ 0) : (bigSep Finset.univ fun h : Fin 2 => cred (tallyAt (recvCell c (step c r) h) () (if step c r = c then 0 else N)))
    = (iprop(cred (tallyAt (recvCell c (step c r) 0) () N) ∗ cred (tallyAt (recvCell c (step c r) 1) () N)) : sProp 𝕄) := by
  rw [if_neg (step_ne c r hr), two]
theorem creds_split : Creds c ⊢ (iprop(cred (tallyAt (barCell c) () 3)
      ∗ (cred (tallyAt (recvCell c (step c 1) 0) () N) ∗ cred (tallyAt (recvCell c (step c 1) 1) () N))
      ∗ (cred (tallyAt (recvCell c (step c 2) 0) () N) ∗ cred (tallyAt (recvCell c (step c 2) 1) () N))
      ∗ (cred (tallyAt (recvCell c (step c 3) 0) () N) ∗ cred (tallyAt (recvCell c (step c 3) 1) () N))) : sProp 𝕄) := by
  unfold Creds
  rw [around (F := F) c, credits_two c 1 (by decide), credits_two c 2 (by decide), credits_two c 3 (by decide)]
  iintro ⟨H, -, H'⟩
  isplitl [H] <;> iassumption
theorem spare_eq : Spare c = (iprop(semVal ((c : Thread nD τ), .dma xS) 0 ∗ (semVal ((c : Thread nD τ), .dma (wS 0)) 0 ∗ semVal ((c : Thread nD τ), .dma (wS 1)) 0)
      ∗ semVal ((c : Thread nD τ), .dma (outS c)) 0 ∗ semVal ((c : Thread nD τ), .dma (outS (step c 1))) 0 ∗ semVal ((c : Thread nD τ), .dma (outS (step c 2))) 0
      ∗ semVal ((c : Thread nD τ), .dma (outS (step c 3))) 0) : sProp 𝕄) := by
  unfold Spare
  rw [two, around (F := F) c]

/-! ## The deal -/

theorem signal_intro (r : Fin 4) : iprop(dutyTok ER (barCell (step c r)) 0 c ∗ ownAny c (slot rM (step c r))) ⊢ (Signal c r : sProp 𝕄) := by
  unfold Signal
  iintro ⟨Ht, Hs⟩
  isplitl [Ht]; · iexact Ht
  iapply (halves_split rM (step c r) c); iexact Hs
theorem pending_intro (t : Fin 6) : iprop(ownAny c (sslot t) ∗ dutyTok ER (sendCell c t) 0 c ∗ dutyTok ER (recvCell (step c (hop (ch t))) c (half (ch t))) 0 c
    ∗ atPos ER (sendCell c t) 0 ∅ 0) ⊢ (Pending c t : sProp 𝕄) := Idealize.SL.BI.Entails.refl _
theorem inbound_intro (r : Fin 4) : iprop((cred (tallyAt (recvCell c (step c r) 0) () N) ∗ cred (tallyAt (recvCell c (step c r) 1) () N))
      ∗ (atPos ER (recvCell c (step c r) 0) 0 ∅ 0 ∗ atPos ER (recvCell c (step c r) 1) 0 ∅ 0)
      ∗ ownAny c (gslot (step c r)) ∗ ownAny c (orows (step c r)) ∗ semVal ((c : Thread nD τ), .dma (outS (step c r))) 0) ⊢ (Inbound c r : sProp 𝕄) := by
  unfold Inbound Expected Ofresh
  iintro ⟨⟨Hc0, Hc1⟩, ⟨Ha0, Ha1⟩, Hg, Ho, Hs⟩
  isplitl [Hc0 Ha0]
  · isplitl [Hc0]; · iexact Hc0
    iexact Ha0
  isplitl [Hc1 Ha1]
  · isplitl [Hc1]; · iexact Hc1
    iexact Ha1
  isplitl [Hg]; · iexact Hg
  isplitl [Ho]; · iexact Ho
  iexact Hs

/-- What a device is dealt is what its body starts from, and what that does not touch. -/
theorem deal : iprop(Owes c (O₀ c) ∗ Args I c ∗ ownAny c oM ∗ Scratch c ∗ Spare c ∗ Positions c ∗ Toks c ∗ Creds c) ⊢ (iprop(Pre I c ∗ Kept c) : sProp 𝕄) := by
  rw [spare_eq, positions_eq, toks_eq]
  unfold Args Scratch
  iintro ⟨HO, ⟨Ha, Hb⟩, Hout, ⟨Hx, Hw, Hs, Hr, Hg⟩, ⟨HxS, ⟨HwS0, HwS1⟩, Hq0, Hq1, Hq2, Hq3⟩,
    ⟨HaB, ⟨Hp0, Hp1, Hp2, Hp3, Hp4, Hp5⟩, ⟨Hk0, Hk1⟩, Hv1, Hv2, Hv3⟩, ⟨⟨-, Ht1, Ht2, Ht3⟩, ⟨Hu0, Hu1, Hu2, Hu3, Hu4, Hu5⟩, Hy0, Hy1, Hy2, Hy3, Hy4, Hy5⟩, Hc⟩
  ihave ⟨Ho0, Ho1, Ho2, Ho3⟩ := (oM_split c) $$ Hout
  ihave ⟨Hw0, Hw1⟩ := (wM_split c) $$ Hw
  ihave ⟨Hs0, Hs1, Hs2, Hs3, Hs4, Hs5⟩ := (sM_split c) $$ Hs
  ihave ⟨Hr0, Hr1, Hr2, Hr3⟩ := (slots_split c rM) $$ Hr
  ihave ⟨Hg0, Hg1, Hg2, Hg3⟩ := (slots_split c gM) $$ Hg
  ihave ⟨HcB, Hc1, Hc2, Hc3⟩ := (creds_split c) $$ Hc
  unfold Pre Rows Weights Kept
  isplitr [Hr0 Hk0 Hk1]; rotate_left
  · isplitl [Hr0]; · iexact Hr0
    isplitl [Hk0]; · iexact Hk0
    iexact Hk1
  isplitl [HO]; · iexact HO
  isplitl [Ha Hx HxS]
  · isplitl [Ha]; · iexact Ha
    isplitl [Hx]; · iexact Hx
    iexact HxS
  isplitl [Hb Hw0 Hw1 HwS0 HwS1]
  · isplitl [Hb]; · iexact Hb
    isplitl [Hw0 Hw1]
    · isplitl [Hw0]; · iexact Hw0
      iexact Hw1
    isplitl [HwS0]; · iexact HwS0
    iexact HwS1
  isplitl [Ht1 Ht2 Ht3 Hr1 Hr2 Hr3]
  · isplitl [Ht1 Hr1]
    · iapply (signal_intro c 1); isplitl [Ht1]; · iexact Ht1
      iexact Hr1
    isplitl [Ht2 Hr2]
    · iapply (signal_intro c 2); isplitl [Ht2]; · iexact Ht2
      iexact Hr2
    iapply (signal_intro c 3); isplitl [Ht3]; · iexact Ht3
    iexact Hr3
  isplitl [HcB]; · iexact HcB
  isplitl [HaB]; · iexact HaB
  isplitl [Hs0 Hs1 Hs2 Hs3 Hs4 Hs5 Hu0 Hu1 Hu2 Hu3 Hu4 Hu5 Hy0 Hy1 Hy2 Hy3 Hy4 Hy5 Hp0 Hp1 Hp2 Hp3 Hp4 Hp5]
  · isplitl [Hs0 Hu0 Hy0 Hp0]
    · iapply (pending_intro c 0); isplitl [Hs0]; · iexact Hs0
      isplitl [Hu0]; · iexact Hu0
      isplitl [Hy0]; · iexact Hy0
      iexact Hp0
    isplitl [Hs1 Hu1 Hy1 Hp1]
    · iapply (pending_intro c 1); isplitl [Hs1]; · iexact Hs1
      isplitl [Hu1]; · iexact Hu1
      isplitl [Hy1]; · iexact Hy1
      iexact Hp1
    isplitl [Hs2 Hu2 Hy2 Hp2]
    · iapply (pending_intro c 2); isplitl [Hs2]; · iexact Hs2
      isplitl [Hu2]; · iexact Hu2
      isplitl [Hy2]; · iexact Hy2
      iexact Hp2
    isplitl [Hs3 Hu3 Hy3 Hp3]
    · iapply (pending_intro c 3); isplitl [Hs3]; · iexact Hs3
      isplitl [Hu3]; · iexact Hu3
      isplitl [Hy3]; · iexact Hy3
      iexact Hp3
    isplitl [Hs4 Hu4 Hy4 Hp4]
    · iapply (pending_intro c 4); isplitl [Hs4]; · iexact Hs4
      isplitl [Hu4]; · iexact Hu4
      isplitl [Hy4]; · iexact Hy4
      iexact Hp4
    iapply (pending_intro c 5); isplitl [Hs5]; · iexact Hs5
    isplitl [Hu5]; · iexact Hu5
    isplitl [Hy5]; · iexact Hy5
    iexact Hp5
  isplitl [Hg0 Ho0 Hq0]
  · rw [step_zero]
    unfold Ofresh
    isplitl [Hg0]; · iexact Hg0
    isplitl [Ho0]; · iexact Ho0
    iexact Hq0
  isplitl [Hc1 Hv1 Hg1 Ho1 Hq1]
  · iapply (inbound_intro c 1)
    isplitl [Hc1]; · iexact Hc1
    isplitl [Hv1]; · iexact Hv1
    isplitl [Hg1]; · iexact Hg1
    isplitl [Ho1]; · iexact Ho1
    iexact Hq1
  isplitl [Hc2 Hv2 Hg2 Ho2 Hq2]
  · iapply (inbound_intro c 2)
    isplitl [Hc2]; · iexact Hc2
    isplitl [Hv2]; · iexact Hv2
    isplitl [Hg2]; · iexact Hg2
    isplitl [Ho2]; · iexact Ho2
    iexact Hq2
  iapply (inbound_intro c 3)
  isplitl [Hc3]; · iexact Hc3
  isplitl [Hv3]; · iexact Hv3
  isplitl [Hg3]; · iexact Hg3
  isplitl [Ho3]; · iexact Ho3
  iexact Hq3

/-! ## What is given back -/

/-- The landing slot and the semaphores that the body did not touch. -/
def Kept' : sProp 𝕄 := iprop(ownAny c (slot rM c) ∗ semVal (recvCell c c 0) 0 ∗ semVal (recvCell c c 1) 0)

/-- The two cells of the device's own block are closed: nobody pays them. -/
theorem close_kept : iprop(Invs I K ∗ Kept c) ⊢ |={Set.univ}=> (Kept' c : sProp 𝕄) := by
  unfold Kept Kept'
  iintro ⟨#HI, Hs, H0, H1⟩
  ihave ⟨Hi0, -⟩ := (Invs_cell I K c (.inr (.inr (c, 0)))) $$ HI
  ihave ⟨Hi1, -⟩ := (Invs_cell I K c (.inr (.inr (c, 1)))) $$ HI
  imod (Rounds.cell_close ER (sched I) (Set.mem_univ (K (c, .inr (.inr (c, 0))))) (fun h => h) (R := 0) (duties_self I c 0)) $$ [Hi0 H0] with H0
  · isplitl [Hi0]; · iexact Hi0
    iexact H0
  imod (Rounds.cell_close ER (sched I) (Set.mem_univ (K (c, .inr (.inr (c, 1))))) (fun h => h) (R := 0) (duties_self I c 1)) $$ [Hi1 H1] with H1
  · isplitl [Hi1]; · iexact Hi1
    iexact H1
  imodintro
  isplitl [Hs]; · iexact Hs
  isplitl [H0] <;> iassumption

theorem ownSems_eq : (Pipeline.ownSems0 (Ix := Unit) (Name := ℕ) (U := UU) (Lvl := ℕ) (Val := Elt F) (τ := τ) osem c : sProp 𝕄)
    = iprop(semVal ((c : Thread nD τ), .dma xS) 0 ∗ (bigSep Finset.univ fun i : Fin 2 => semVal ((c : Thread nD τ), .dma (wS i)) 0)
      ∗ (bigSep Finset.univ fun t : Fin 6 => semVal (sendCell c t) 0) ∗ (bigSep Finset.univ fun q : Dev nD × Fin 2 => semVal (recvCell c q.1 q.2) 0)
      ∗ bigSep Finset.univ fun s : Dev nD => semVal ((c : Thread nD τ), .dma (outS s)) 0) := by
  unfold Pipeline.ownSems0
  rw [bigSep_univ_sum, bigSep_univ_sum, bigSep_univ_sum, bigSep_univ_sum, one]
  rfl

/-- What the body ends with, with what it did not touch, is everything whole again and every semaphore at zero. -/
theorem collect [∀ e, Nonempty (Elt F e)] : iprop(Post I c ∗ Kept' c)
    ⊢ (iprop(Owes c 0 ∗ Args I c ∗ own c oM (Zall I c) ∗ semVal (barCell c) 0 ∗ Pipeline.ownSems0 (Ix := Unit) (Name := ℕ) (U := UU) (Lvl := ℕ) (Val := Elt F) (τ := τ) osem c ∗ Scratch c) : sProp 𝕄) := by
  have hr := slots_join (F := F) c rM
  have hg := slots_join (F := F) c gM
  have ho := oM_join I c
  rw [around (F := F) c] at hr
  rw [four] at hg ho
  rw [ownSems_eq, two, six, bigSep_univ_prod, around (F := F) c (fun s : Dev nD => bigSep Finset.univ fun h : Fin 2 => semVal (recvCell c s h) 0), four]
  simp only [two]
  unfold Post Rows Weights Done Landed Oend Kept' Args Scratch
  iintro ⟨⟨HO, ⟨Ha, Hx, HxS⟩, ⟨Hb, Hw, HwS⟩, HB, ⟨⟨Hs0, Hp0⟩, ⟨Hs1, Hp1⟩, ⟨Hs2, Hp2⟩, ⟨Hs3, Hp3⟩, ⟨Hs4, Hp4⟩, ⟨Hs5, Hp5⟩⟩,
    ⟨⟨Hr1, Hv1⟩, ⟨Hr2, Hv2⟩, ⟨Hr3, Hv3⟩⟩, ⟨Ho0, Hg0, Hq0⟩, ⟨Ho1, Hg1, Hq1⟩, ⟨Ho2, Hg2, Hq2⟩, ⟨Ho3, Hg3, Hq3⟩⟩, Hr0, Hv0⟩
  isplitl [HO]; · iexact HO
  isplitl [Ha Hb]
  · isplitl [Ha]; · iexact Ha
    iexact Hb
  isplitl [Ho0 Ho1 Ho2 Ho3]
  · iapply ho
    isplitl [Ho0]; · iexact Ho0
    isplitl [Ho1]; · iexact Ho1
    isplitl [Ho2]; · iexact Ho2
    iexact Ho3
  isplitl [HB]; · iexact HB
  isplitl [HxS HwS Hp0 Hp1 Hp2 Hp3 Hp4 Hp5 Hv0 Hv1 Hv2 Hv3 Hq0 Hq1 Hq2 Hq3]
  · isplitl [HxS]; · iexact HxS
    isplitl [HwS]; · iexact HwS
    isplitl [Hp0 Hp1 Hp2 Hp3 Hp4 Hp5]
    · isplitl [Hp0]; · iexact Hp0
      isplitl [Hp1]; · iexact Hp1
      isplitl [Hp2]; · iexact Hp2
      isplitl [Hp3]; · iexact Hp3
      isplitl [Hp4]; · iexact Hp4
      iexact Hp5
    isplitl [Hv0 Hv1 Hv2 Hv3]
    · isplitl [Hv0]; · iexact Hv0
      isplitl [Hv1]; · iexact Hv1
      isplitl [Hv2]; · iexact Hv2
      iexact Hv3
    isplitl [Hq0]; · iexact Hq0
    isplitl [Hq1]; · iexact Hq1
    isplitl [Hq2]; · iexact Hq2
    iexact Hq3
  isplitl [Hx]; · iexact Hx
  isplitl [Hw]; · iapply (wM_join c) $$ Hw
  isplitl [Hs0 Hs1 Hs2 Hs3 Hs4 Hs5]
  · iapply (sM_join c)
    isplitl [Hs0]; · iexact Hs0
    isplitl [Hs1]; · iexact Hs1
    isplitl [Hs2]; · iexact Hs2
    isplitl [Hs3]; · iexact Hs3
    isplitl [Hs4]; · iexact Hs4
    iexact Hs5
  isplitl [Hr0 Hr1 Hr2 Hr3]
  · iapply hr
    isplitl [Hr0]; · iexact Hr0
    isplitl [Hr1]; · iexact Hr1
    isplitl [Hr2]; · iexact Hr2
    iexact Hr3
  iapply hg
  isplitl [Hg0]; · iexact Hg0
  isplitl [Hg1]; · iexact Hg1
  isplitl [Hg2]; · iexact Hg2
  iexact Hg3

end Cert.KernelIdeal.Talk

end
-- ==== Proof.KernelIdeal.Launch.lean ====
/-
# The launch

The ghost state is made for all devices at once, each gets its deal, runs the body, and gives back its arguments unchanged, its
part of the result and every semaphore at zero.
-/
module

public import Idealize.ShloMosaic.Lib.Pipeline.CollectiveSegs
public import proofs.«01_k».proof.Proof.KernelIdeal.Deal
public import proofs.«01_k».proof.Proof.Gen.KernelIdeal.Launch
public import proofs.«01_k».proof.Proof.Gen.KernelIdeal.Points

@[expose] public section

noncomputable section

namespace Cert.KernelIdeal.Talk

open Cert.KernelIdeal Cert.KernelIdeal.Gen
open Idealize.ShloMosaic Idealize.ShloMosaic.TcCoe Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- The machine at the start. -/
def s₀ : MemSt nD τ sig (Elt F) := ⟨m, fun _ => 0, ρ⟩

/-- The arguments that the memory holds. -/
def inputs : Inputs F := { x := fun c => m ((c : Thread nD τ).loc main_arg0), w := fun c => m ((c : Thread nD τ).loc main_arg1) }

/-! ## The pipeline's data: no windows, one point -/

/-- What a device's body starts from, -/
def start (c : Dev nD) : sProp 𝕄 :=
  iprop((∃ K, Invs (inputs m) K ∗ Positions c ∗ Toks c ∗ Spare c) ∗ Creds c ∗ levAts L lv ∗ Args (inputs m) c ∗ ownAny c oM)
def Φ₀ (c : Dev nD) : sProp 𝕄 := iprop(start m c ∗ Scratch c)
/-- what it leaves of the device's arrays, -/
def left (c : Dev nD) : sProp 𝕄 := iprop(Args (inputs m) c ∗ own c oM (Zall (inputs m) c) ∗ semVal (barCell c) 0)
/-- and all that it leaves. -/
def Φ₁ (c : Dev nD) : sProp 𝕄 :=
  iprop(left m c ∗ Pipeline.ownSems0 (Ix := Unit) (Name := ℕ) (U := UU) (Lvl := ℕ) (Val := Elt F) (τ := τ) osem c ∗ Scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = (BI.emp : sProp 𝕄) := bigSep_univ_eq_bigSepL [] (by decide) (by decide) Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem own_of_pts (c : Dev nD) (b : Ref sig .tc) (f : Buf (Elt F) (((c : Dev nD) : Thread nD τ).loc b)) :
    (((c : Thread nD τ).loc b) ↦{fullShare} f) ⊢ (own c (Memref.whole b) f : sProp 𝕄) := by
  unfold own
  rw [owns_whole_eq]
  iintro H; iexists f
  isplitr; · (ipureintro; rfl)
  iexact H
theorem any_of_pts (c : Dev nD) (b : Ref sig .tc) :
    (∃ f : Buf (Elt F) (((c : Dev nD) : Thread nD τ).loc b), ((c : Thread nD τ).loc b) ↦{fullShare} f) ⊢ (ownAny c (Memref.whole b) : sProp 𝕄) := by
  iintro ⟨%f, H⟩
  iexists f
  iapply (own_of_pts c b f); iexact H
theorem pts_of_any (c : Dev nD) (b : Ref sig .tc) :
    ownAny c (Memref.whole b) ⊢ (iprop(∃ f : Buf (Elt F) (((c : Dev nD) : Thread nD τ).loc b), ((c : Thread nD τ).loc b) ↦{fullShare} f) : sProp 𝕄) := by
  unfold ownAny own
  simp only [owns_whole_eq]
  iintro ⟨%X, %f, -, H⟩
  iexists f; iexact H

theorem scratch_in (c : Dev nD) : Pipeline.scopedRest (Ix := Unit) (Name := ℕ) (U := UU) (Lvl := ℕ) (Val := Elt F) cfg0.spec c ⊢ (Scratch c : sProp 𝕄) := by
  rw [scopedRest0_eq]
  unfold Scratch
  iintro ⟨H0, H1, H2, H3, H4⟩
  isplitl [H0]; · iapply (any_of_pts c cc0_scratch0) $$ H0
  isplitl [H1]; · iapply (any_of_pts c cc0_scratch1) $$ H1
  isplitl [H2]; · iapply (any_of_pts c cc0_scratch2) $$ H2
  isplitl [H3]; · iapply (any_of_pts c cc0_scratch3) $$ H3
  iapply (any_of_pts c cc0_scratch4) $$ H4
theorem scratch_out (c : Dev nD) : Scratch c ⊢ (Pipeline.scopedRest (Ix := Unit) (Name := ℕ) (U := UU) (Lvl := ℕ) (Val := Elt F) cfg0.spec c : sProp 𝕄) := by
  rw [scopedRest0_eq]
  unfold Scratch
  iintro ⟨H0, H1, H2, H3, H4⟩
  isplitl [H0]; · iapply (pts_of_any c cc0_scratch0) $$ H0
  isplitl [H1]; · iapply (pts_of_any c cc0_scratch1) $$ H1
  isplitl [H2]; · iapply (pts_of_any c cc0_scratch2) $$ H2
  isplitl [H3]; · iapply (pts_of_any c cc0_scratch3) $$ H3
  iapply (pts_of_any c cc0_scratch4) $$ H4

/-- The body from `Φ₀` to `Φ₁`. -/
theorem run_body [∀ e, Nonempty (Elt F e)] (c : Dev nD) (Kt : PUnit → sProp 𝕄) :
    iprop(Φ₀ m c ∗ Owes c (O₀ c) ∗ (iprop(Φ₁ m c ∗ Owes c 0) -∗ Kt ⟨⟩)) ⊢ WP c (bodyAt0 t0_0) Kt := by
  unfold Φ₀ start
  iintro ⟨⟨⟨⟨%K, #HI, Hpos, Htok, Hsp⟩, Hcr, #Hlev, Ha, Ho⟩, Hscr⟩, HO, Hk⟩
  ihave ⟨Hpre, Hkept⟩ := (deal (inputs m) c) $$ [Hpos Htok Hsp Hcr Ha Ho Hscr HO]
  · isplitl [HO]; · iexact HO
    isplitl [Ha]; · iexact Ha
    isplitl [Ho]; · iexact Ho
    isplitl [Hscr]; · iexact Hscr
    isplitl [Hsp]; · iexact Hsp
    isplitl [Hpos]; · iexact Hpos
    isplitl [Htok]; · iexact Htok
    iexact Hcr
  imod (close_kept (inputs m) K c) $$ [Hkept] with Hkept
  · isplitr; · iexact HI
    iexact Hkept
  iapply (body (inputs m) K c Kt)
  isplitr; · iexact Hlev
  isplitr; · iexact HI
  isplitl [Hpre]; · iexact Hpre
  iintro Hpost
  ihave ⟨HO, Ha, Ho, Hbar, Hos, Hscr⟩ := (collect (inputs m) c) $$ [Hpost Hkept]
  · isplitl [Hpost]; · iexact Hpost
    iexact Hkept
  iapply Hk
  unfold Φ₁ left
  isplitr [HO]; rotate_left
  · iexact HO
  isplitl [Ha Ho Hbar]
  · isplitl [Ha]; · iexact Ha
    isplitl [Ho]; · iexact Ho
    iexact Hbar
  isplitl [Hos]; · iexact Hos
  iexact Hscr

theorem owes_elim (c : Dev nD) (t : Fin (cfg0.N + 1)) {O : CellTallies nD τ sig Unit} (h : (dats m 0 c).owed t = O) :
    ((dats m 0 c).owesAt () t : sProp 𝕄) ⊢ Owes c O := by
  subst h
  unfold Dat.owesAt Pipeline.owesWithin
  iintro ⟨%W, -, H⟩
  iexists W; iexact H
theorem owes_intro (c : Dev nD) (t : Fin (cfg0.N + 1)) {O : CellTallies nD τ sig Unit} (h : (dats m 0 c).owed t = O) :
    Owes c O ⊢ ((dats m 0 c).owesAt () t : sProp 𝕄) := by
  subst h
  unfold Dat.owesAt Pipeline.owesWithin
  iintro ⟨%W, H⟩
  iexists W
  isplitr; · ipureintro; exact fun _ _ => Or.inl trivial
  iexact H

/-- The library's body obligation. -/
theorem body_obligation [∀ e, Nonempty (Elt F e)] (c : Dev nD) : BodyObligation (dats (F := F) m 0 c) (defs₀ (F := F)) 𝒱₀ () Set.univ := fun t => by
  rw [fin_N0 t]
  rw [bigSep_W, bigSep_W]
  rw [show (dats m 0 c).Φ t0_0.castSucc = Φ₀ m c from rfl, show (dats m 0 c).Φ t0_0.succ = Φ₁ m c from rfl]
  iintro ⟨HΦ, HO, -⟩
  ihave HO := (owes_elim m c _ (O := O₀ c) rfl) $$ HO
  iapply (run_body m c)
  isplitl [HΦ]; · iexact HΦ
  isplitl [HO]; · iexact HO
  iintro ⟨HΦ, HO⟩
  isplitl [HΦ]; · iexact HΦ
  isplitl [HO]; · iapply (owes_intro m c _ (O := 0) rfl) $$ HO
  iempintro

/-! ## The ghost state -/

theorem ownSemFacts : Pipeline.OwnSemFacts cfg0.spec osem := by decide

theorem cell_injective : Function.Injective fun q : Dev nD × CIx => cell q.1 q.2 := by
  rintro ⟨c, i⟩ ⟨c', i'⟩ h
  have h₁ : c = c' := congrArg (fun g : GSem nD τ sig => g.1.1) h
  have h₂ : i = i' := csem_inj (congrArg Prod.snd h)
  rw [h₁, h₂]
theorem tokCell_injective : ∀ (c : Dev nD) (j j' : TIx), tokCell c j = tokCell c j' → j = j' := by decide +kernel
theorem tok_injective : Function.Injective fun q : Dev nD × TIx => (cell (tokCell q.1 q.2).1 (tokCell q.1 q.2).2, 0, q.1) := by
  rintro ⟨c, j⟩ ⟨c', j'⟩ h
  have h₁ : c = c' := congrArg (fun x : GSem nD τ sig × ℕ × Dev nD => x.2.2) h
  subst h₁
  have h₂ : tokCell c j = tokCell c j' := cell_injective (congrArg (fun x : GSem nD τ sig × ℕ × Dev nD => x.1) h)
  rw [tokCell_injective c j j' h₂]

/-- Every cell, and every payment. -/
def allCells : Finset (GSem nD τ sig) := Finset.univ.map ⟨fun q : Dev nD × CIx => cell q.1 q.2, cell_injective⟩
def allToks : Finset (GSem nD τ sig × ℕ × Dev nD) :=
  Finset.univ.map ⟨fun q : Dev nD × TIx => (cell (tokCell q.1 q.2).1 (tokCell q.1 q.2).2, 0, q.1), tok_injective⟩

def u₀ : UU := (initOf (Pipeline.cells cfgs cellOf_inj) (Pipeline.launchToks cfgs cellOf_inj), (initOf allCells allToks, 1))

/-- What a device has of it at first, -/
def G (c : Dev nD) : sProp 𝕄 :=
  iprop((bigSep Finset.univ fun i : CIx => roundState ER (sched (inputs m)) (cell c i) 0)
    ∗ (bigSep Finset.univ fun i : CIx => reached ER (cell c i) 0) ∗ Positions c ∗ Toks c)
/-- and after the invariants are made. -/
def G' (c : Dev nD) : sProp 𝕄 := iprop(∃ K, Invs (inputs m) K ∗ Positions c ∗ Toks c ∗ Spare c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CIx => Φ (cell c i) := by
    unfold allCells; rw [bigSep_map, bigSep_univ_prod]; rfl
  have hT : bigSep allToks (fun x => (dutyTok ER x.1 x.2.1 x.2.2 : sProp 𝕄)) = bigSep Finset.univ fun c : Dev nD => Toks c := by
    unfold allToks; rw [bigSep_map, bigSep_univ_prod]; rfl
  iintro HX
  imod (Rounds.fund ER (sched (inputs m)) allCells allToks) $$ HX with ⟨Hst, Hr, Hat, Htok⟩
  imodintro
  ihave Hst := (Entails.of_eq (hX fun g => roundState ER (sched (inputs m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G Positions
  simp only [bigSep_sep']
  isplitl [Hst]; · iexact Hst
  isplitl [Hr]; · iexact Hr
  isplitl [Hat]; · iexact Hat
  iexact Htok

/-- The barrier semaphore is the one that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells. -/
theorem cells_eq (Φ : CIx → sProp 𝕄) :
    bigSep Finset.univ Φ = iprop(Φ (.inl ()) ∗ (bigSep Finset.univ fun t => Φ (.inr (.inl t))) ∗ bigSep Finset.univ fun q => Φ (.inr (.inr q))) := by
  rw [bigSep_univ_sum, bigSep_univ_sum, one]
  rfl

/-- The semaphores of a device are its cells' and the spare ones. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun i : CIx => semVal (cell c i) 0) ∗ Spare c) : sProp 𝕄) := by
  rw [ownSems_eq, unscopedSems0_eq, cells_eq]
  unfold Spare
  iintro ⟨⟨H0, H1, H2, H3, H4⟩, HB⟩
  isplitl [HB H2 H3]
  · isplitl [HB]; · iexact HB
    isplitl [H2]; · iexact H2
    iexact H3
  isplitl [H0]; · iexact H0
  isplitl [H1]; · iexact H1
  iexact H4

/-- One device's part of the making of the invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched (inputs m)) κ (cell c i)))
          ∗ (bigSep Finset.univ fun i : CIx => reached ER (cell c i) 0) ∗ Positions c ∗ Toks c ∗ Spare c) := by
  have hp : iprop((bigSep Finset.univ fun i : CIx => semVal (cell c i) 0) ∗ bigSep Finset.univ fun i : CIx => roundState ER (sched (inputs m)) (cell c i) 0)
      ⊢ (|={Set.univ}=> bigSep Finset.univ fun i : CIx => iprop(∃ κ : ℕ, cellInv ER (sched (inputs m)) κ (cell c i)) : sProp 𝕄) := by
    rw [← bigSep_sep']
    exact (bigSep_mono fun i _ => (Rounds.body_intro ER (sched (inputs m)) (cell c i)).trans inv_alloc).trans (bigSep_fupd _ _)
  unfold G
  iintro ⟨Hos, Hus, Hst, Hr, Hat, Htok⟩
  ihave ⟨Hv, Hsp⟩ := (sems_split (F := F) c) $$ [Hos Hus]
  · isplitl [Hos] <;> iassumption
  imod hp $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hsp

/-- The names of all devices' invariants chosen, each device has them all. -/
theorem regroup :
    (bigSep Finset.univ fun c : Dev nD => iprop((bigSep Finset.univ fun i : CIx => iprop(∃ κ : ℕ, cellInv ER (sched (inputs m)) κ (cell c i)))
          ∗ (bigSep Finset.univ fun i : CIx => reached ER (cell c i) 0) ∗ Positions c ∗ Toks c ∗ Spare c) : sProp 𝕄)
      ⊢ bigSep Finset.univ (G' m) := by
  have hG (K : Dev nD × CIx → ℕ) (c : Dev nD) : iprop(Invs (inputs m) K ∗ iprop(Positions c ∗ Toks c ∗ Spare c)) ⊢ (G' m c : sProp 𝕄) := by
    unfold G'
    iintro H; iexists K; iexact H
  have hI (K : Dev nD × CIx → ℕ) : iprop((bigSep Finset.univ fun q : Dev nD × CIx => cellInv ER (sched (inputs m)) (K q) (cell q.1 q.2))
      ∗ bigSep Finset.univ fun q : Dev nD × CIx => reached ER (cell q.1 q.2) 0) ⊢ (Invs (inputs m) K : sProp 𝕄) := by
    unfold Invs
    rw [bigSep_sep']
  rw [bigSep_sep', bigSep_sep', ← bigSep_univ_prod (fun q : Dev nD × CIx => iprop(∃ κ : ℕ, cellInv ER (sched (inputs m)) κ (cell q.1 q.2))),
    ← bigSep_univ_prod (fun q : Dev nD × CIx => (reached ER (cell q.1 q.2) 0 : sProp 𝕄))]
  iintro ⟨HI, HR, H⟩
  ihave ⟨%K, HI⟩ := (BI.bigSep_exists_pi Finset.univ (fun (q : Dev nD × CIx) (κ : ℕ) => (cellInv ER (sched (inputs m)) κ (cell q.1 q.2) : sProp 𝕄))) $$ HI
  ihave #HI := (hI K) $$ [HI HR]
  · isplitl [HI] <;> iassumption
  iapply (BI.bigSep_with_persistent (R := Invs (inputs m) K) fun c _ => hG K c)
  isplitr; · iexact HI
  iexact H

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem cell_iff {q q' : Dev nD × CIx} : (cell q.1 q.2 = cell q'.1 q'.2) = (q = q') := propext ⟨fun h => cell_injective h, fun h => h ▸ rfl⟩

/-- What `d` owes a cell: its arrivals and its signals there. -/
theorem owed_cell (d : Dev nD) (q : Dev nD × CIx) : O₀ d (cell q.1 q.2) () =
    N * (Finset.univ.filter fun t : Fin 6 => q = (step d (hop (ch t)), .inr (.inr (d, half (ch t))))).card
      + (Finset.univ.filter fun r : Fin 3 => q = (step d r.succ, .inl ())).card := by
  have ha (n : ℕ) (q' : Dev nD × CIx) : (tallyAt (cell q'.1 q'.2) () n : CellTallies nD τ sig Unit) (cell q.1 q.2) () = if q = q' then n else 0 := by
    rw [tallyAt_apply]
    simp only [cell_iff, and_true]
  have hs : sendOwe d 0 (cell q.1 q.2) () = N * (Finset.univ.filter fun t : Fin 6 => q = (step d (hop (ch t)), .inr (.inr (d, half (ch t))))).card := by
    unfold sendOwe
    rw [Finset.sum_apply, Finsupp.finsetSum_apply, Finset.card_filter, Finset.mul_sum]
    refine Finset.sum_congr (by decide) fun t _ => ?_
    refine (ha N (step d (hop (ch t)), .inr (.inr (d, half (ch t))))).trans ?_
    rw [mul_ite, Nat.mul_one, Nat.mul_zero]
  have hb (r : Fin 4) : tallyAt (barCell (step d r)) () 1 (cell q.1 q.2) () = if q = (step d r, .inl ()) then 1 else 0 :=
    ha 1 (step d r, .inl ())
  unfold O₀
  rw [Pi.add_apply, Finsupp.add_apply, Pi.add_apply, Finsupp.add_apply, Pi.add_apply, Finsupp.add_apply, hs, hb, hb, hb]
  have hc : (Finset.univ.filter fun r : Fin 3 => q = (step d r.succ, .inl ())).card
      = (if q = (step d 1, .inl ()) then 1 else 0) + (if q = (step d 2, .inl ()) then 1 else 0) + (if q = (step d 3, .inl ()) then 1 else 0) := by
    rw [Finset.card_filter, Fin.sum_univ_three]
    rfl
  rw [hc]
  omega

theorem owed_bar : ∀ c : Dev nD, (∑ d : Dev nD, (Finset.univ.filter fun t : Fin 6 => ((c, .inl ()) : Dev nD × CIx) = (step d (hop (ch t)), .inr (.inr (d, half (ch t))))).card) = 0
    ∧ (∑ d : Dev nD, (Finset.univ.filter fun r : Fin 3 => ((c, .inl ()) : Dev nD × CIx) = (step d r.succ, .inl ())).card) = 3 := by decide +kernel
theorem owed_recv : ∀ (c s : Dev nD) (h : Fin 2),
    (∑ d : Dev nD, (Finset.univ.filter fun t : Fin 6 => ((c, .inr (.inr (s, h))) : Dev nD × CIx) = (step d (hop (ch t)), .inr (.inr (d, half (ch t))))).card) = (if s = c then 0 else 1)
    ∧ (∑ d : Dev nD, (Finset.univ.filter fun r : Fin 3 => ((c, .inr (.inr (s, h))) : Dev nD × CIx) = (step d r.succ, .inl ())).card) = 0 := by decide +kernel

/-- The launch's credit at a cell. -/
theorem launch_cell (q : Dev nD × CIx) (n : ℕ) (hn : (∑ d : Dev nD, O₀ d (cell q.1 q.2) ()) = n) :
    tallyOn (cell q.1 q.2) (launchCredit (Pipeline.owing O₀) 0 (cell q.1 q.2)) = (tallyAt (cell q.1 q.2) () n : CellTallies nD τ sig Unit) := by
  unfold tallyAt; refine congrArg _ (Finsupp.ext fun u => ?_); cases u
  rw [Pipeline.launchCredit_owing, Finsupp.single_eq_same, hn]
theorem launch_bar (c : Dev nD) : tallyOn (barCell c) (launchCredit (Pipeline.owing O₀) 0 (barCell c)) = (tallyAt (barCell c) () 3 : CellTallies nD τ sig Unit) :=
  launch_cell (c, .inl ()) 3 (by
    rw [Finset.sum_congr rfl fun d _ => owed_cell d (c, .inl ()), Finset.sum_add_distrib, ← Finset.mul_sum, (owed_bar c).1, (owed_bar c).2]
    omega)
theorem launch_recv (c s : Dev nD) (h : Fin 2) :
    tallyOn (recvCell c s h) (launchCredit (Pipeline.owing O₀) 0 (recvCell c s h)) = (tallyAt (recvCell c s h) () (if s = c then 0 else N) : CellTallies nD τ sig Unit) :=
  launch_cell (c, .inr (.inr (s, h))) _ (by
    rw [Finset.sum_congr rfl fun d _ => owed_cell d (c, .inr (.inr (s, h))), Finset.sum_add_distrib, ← Finset.mul_sum, (owed_recv c s h).1, (owed_recv c s h).2,
      mul_ite, Nat.mul_one, Nat.mul_zero, Nat.add_zero])

theorem creds (c : Dev nD) : (Pipeline.launchCred O₀ c : sProp 𝕄) ⊢ Creds c := by
  have hinj : Function.Injective csem := fun _ _ h => csem_inj h
  have hp : (Pipeline.launchCred O₀ c : sProp 𝕄)
      ⊢ bigSep Finset.univ fun i : CIx => cred (tallyOn (cell c i) (launchCredit (Pipeline.owing O₀) 0 (cell c i))) := by
    unfold Pipeline.launchCred
    refine (bigSep_subset (Finset.subset_univ (Finset.univ.map ⟨csem, hinj⟩))).trans ?_
    rw [bigSep_map]
    exact Idealize.SL.BI.Entails.refl _
  refine hp.trans ?_
  rw [cells_eq, bigSep_univ_prod]
  have e : (bigSep Finset.univ fun s : Dev nD => bigSep Finset.univ fun h : Fin 2 => (cred (tallyAt (recvCell c s h) () (if s = c then 0 else N)) : sProp 𝕄))
      = bigSep Finset.univ fun s : Dev nD => bigSep Finset.univ fun h : Fin 2 => cred (tallyOn (recvCell c s h) (launchCredit (Pipeline.owing O₀) 0 (recvCell c s h))) :=
    bigSep_congr fun s _ => bigSep_congr fun h _ => by rw [launch_recv]
  unfold Creds
  rw [e, ← launch_bar]
  iintro ⟨HB, -, HR⟩
  isplitl [HB]; · iexact HB
  iexact HR

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ (emp : sProp 𝕄)) := by
  rw [Pipeline.unscopedRestP_none, unscopedRest0_eq]
  iintro ⟨⟨H0, H1, H2⟩, Hlev, Hcr, -, HG⟩
  ihave Hcr := (creds (F := F) c) $$ Hcr
  ihave H0 := (own_of_pts c main_arg0 _) $$ H0
  ihave H1 := (own_of_pts c main_arg1 _) $$ H1
  ihave H2 := (own_of_pts c main_v1 _) $$ H2
  imodintro
  unfold start G' Args
  isplitl
  · isplitl [HG]; · iexact HG
    isplitl [Hcr]; · iexact Hcr
    isplitl [Hlev]; · iexact Hlev
    isplitl [H0 H1]
    · isplitl [H0]; · iexact H0
      iexact H1
    iexists _; iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_in c) $$ Hr

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl]
  unfold Φ₁
  iintro ⟨H, Hs, Hr⟩
  isplitl [H]; · iexact H
  isplitl [Hs]; · iexact Hs
  iapply (scratch_out c) $$ Hr

theorem waits (c : Dev nD) : (levAts L lv : sProp 𝕄) ⊢ Pipeline.cellsWaits cfgs (dats m) () 0 c :=
  Pipeline.cellsWaits_intro cfgs (dats m) () 0 c fun w s t => w.elim0

/-- What a device's memory holds at the end. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = Zall (inputs m) c
    ∧ ∀ sm : SemLoc sig, sm.isScoped .tc = false → s.sem ((c.tc : Thread nD τ), sm) = 0

/-- An array owned is read off the machine's memory. -/
theorem read_whole (c : Dev nD) (b : Ref sig .tc) (X : b.ty.Contents (Elt F)) (s' : Phys nD τ sig (Elt F)) :
    iprop(own c (Memref.whole b) X ∗ SI s') ⊢ iprop(⌜s'.mem.mem ((c : Thread nD τ).loc b) = X⌝ ∗ (SI s' : sProp 𝕄)) := by
  unfold own
  rw [owns_whole_eq]
  iintro ⟨⟨%f, %hf, H⟩, HS⟩
  subst hf
  icombine HS H gives %h
  isplitr
  · ipureintro; funext i; exact h i (Finset.mem_univ i)
  · iexact HS

theorem final_read (c : Dev nD) (s' : Phys nD τ sig (Elt F)) :
    iprop(left m c ∗ (emp : sProp 𝕄) ∗ SI s') ⊢ |={Set.univ}=> iprop(⌜Ends m c s'.mem⌝ ∗ SI s') := by
  unfold left Args
  rw [← unscopedSems0_eq]
  iintro ⟨⟨⟨H0, H1⟩, H2, Hu⟩, -, HS⟩
  ihave H := (read_whole (F := F) c main_arg0 _ s') $$ [H0 HS]
  · isplitl [H0]; · iexact H0
    iexact HS
  icases H with ⟨%h0, HS⟩
  ihave H := (read_whole (F := F) c main_arg1 _ s') $$ [H1 HS]
  · isplitl [H1]; · iexact H1
    iexact HS
  icases H with ⟨%h1, HS⟩
  ihave H := (read_whole (F := F) c main_v1 _ s') $$ [H2 HS]
  · isplitl [H2]; · iexact H2
    iexact HS
  icases H with ⟨%h2, HS⟩
  imod (Pipeline.unscopedSems0_read (X := unscopedSems0 c) (c := c) fupd_intro s') $$ [Hu HS] with ⟨%h3, HS⟩
  · isplitl [Hu]; · iexact Hu
    iexact HS
  imodintro
  isplitr
  · ipureintro; exact ⟨h0, h1, h2, h3⟩
  · iexact HS

theorem split_ghost (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

set_option maxRecDepth 8000 in
/-- From any memory with the semaphores at zero every run ends, with the arguments unchanged, the result's rows as computed, and the
    semaphores at zero. -/
theorem run_main [∀ e, Nonempty (Elt F e)] :
    θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (split_ghost _ _) $$ Hu
      icases H with ⟨HP, HX⟩
      imod (fund_all m) $$ HX with HG
      imodintro
      isplitl [HP]; · iexact HP
      iexact HG)
    (hglob := glob m)
    (hA := fun _ w => w.elim0) (hpf := fun _ k => k.elim0)
    (X := start m) (Y := left m) (Z := fun _ => iprop(emp))
    (hX := start_intro m ρ) (hin := phi0_intro m) (hout := phi1_exit m)
    (QY := fun c s => Ends m c s)
    (hY := final_read m)
    (hQ := fun _ h hs => ⟨fun c => (h c).2.2, sem_eq_zero hs fun c => (h c).2.2.2.2.2⟩)

end Cert.KernelIdeal.Talk

end
-- ==== Proof.Value.lean ====
/-
# The values, at the exact reals

What a device computes of its rows and a block of columns, read at an index, is the sum of products clipped below at zero, and so is
the reference; the four row blocks a device ends with are together its block of columns of the reference's result.
-/
module

public import proofs.«01_k».proof.Proof.KernelIdeal.Launch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.PureOps.Ideal
public import Idealize.ShloMosaic.PureOps.Ideal.Laws

@[expose] public section

noncomputable section

namespace Cert.KernelIdeal.Talk

open Cert.KernelIdeal Cert.KernelIdeal.Gen
open Idealize.ShloMosaic Idealize.ShloMosaic.TcCoe Idealize.ShloMosaic.ValueIdx
open scoped BigOperators

/-- The clipped sum of products of row `r` of `X` and column `l` of `W`. -/
def clip (X W : S2048x2048.Idx → Elt Ideal .f32) (r l : Fin 2048) : EReal :=
  max (∑ k : Fin 2048, (X (ix2 r k) : EReal) * W (ix2 k l)) 0

/-- A chunk's product read at an index. -/
theorem prod_at (xb : FVec Ideal S512x2048 .bf16) (w : FVec Ideal S2048x256 .f32) (a : Fin 512) (b : Fin 256) :
    prod xb w (ix2 a b) = max (∑ k : Fin 2048, (xb (ix2 a k) : EReal) * w (ix2 k b)) 0 := by
  have h : matmul dot_S512x2048_S2048x256_S512x256_1_0_0_1_n_n none xb (truncf .bf16 w bitsLt_bf16_f32) (constant S512x256 .f32 0x00000000#32) (ix2 a b)
      = ∑ k : Fin 2048, (xb (ix2 a k) : EReal) * w (ix2 k b) := by
    refine (Ideal.matmul_plain_apply (M := 512) (K := 2048) (N := 256) none xb (truncf .bf16 w bitsLt_bf16_f32) (constant S512x256 .f32 0x00000000#32) a b).trans ?_
    show Ideal.ofBits .f32 0x00000000#32 + _ = _
    rw [Ideal.ofBits_zero_f32, zero_add]
    rfl
  show max _ (Ideal.ofBits .f32 0x00000000#32) = _
  rw [Ideal.ofBits_zero_f32]
  exact congrArg (max · (0 : EReal)) h

/-- The reference's result read at an index. -/
theorem reference_at (X W : S2048x2048.Idx → Elt Ideal .f32) (a b : Fin 2048) :
    maximumf (Host.dotGeneral (φ₁ := .f32) (φ₂ := .f32) Cert.ReferenceIdeal.dot_S2048x2048_S2048x2048_S2048x2048_1_0_0_1_n_n none X W)
      (broadcastInDim Cert.ReferenceIdeal.S2048x2048 ![] Cert.ReferenceIdeal.Gen.bcast_S_S2048x2048 (constant (F := Ideal) Cert.ReferenceIdeal.S_ .f32 0x00000000#32)) (ix2 a b)
      = clip X W a b := by
  have h := StackMember.dotGeneral_plain_apply (m := 2048) (k := 2048) (n := 2048) (φ₁ := .f32) (φ₂ := .f32) none X W a b
  show max _ (Ideal.ofBits .f32 0x00000000#32) = _
  rw [Ideal.ofBits_zero_f32]
  exact congrArg (max · (0 : EReal)) h

variable (I : Inputs Ideal) (X W : S2048x2048.Idx → Elt Ideal .f32)

/-- The devices hold the rows of `X`, and each the whole of `W`. -/
def Held : Prop := ∀ c : Dev nD, I.x c = Layout.block ⟨2, ![512, 2048]⟩ ⟨2, ![2048, 2048]⟩ 0 4 c X ∧ I.w c = W

variable {I X W}

theorem Yf_at (H : Held I X W) (s d : Dev nD) (h : Fin 2) (a : Fin 512) (b : Fin 256) :
    Yf I s d h (ix2 a b) = clip X W ⟨512 * s.val + a.val, by have : s.val < 4 := s.isLt; omega⟩
      ⟨512 * d.val + 256 * h.val + b.val, by have : d.val < 4 := d.isLt; omega⟩ := by
  unfold Yf
  rw [prod_at]
  unfold clip
  refine congrArg (max · (0 : EReal)) (Finset.sum_congr rfl fun k _ => ?_)
  congr 1
  · show I.x s (ix2 a k) = _
    rw [(H s).1, Layout.block_apply]
    congr 1; funext x; apply Fin.ext
    match x with
    | ⟨0, _⟩ => show s.val * 512 + a.val = 512 * s.val + a.val; omega
    | ⟨1, _⟩ => rfl
  · show I.w s ((winR d h).emb (ix2 k b)) = _
    rw [(H s).2]
    congr 1; funext x; apply Fin.ext
    match x with
    | ⟨0, _⟩ => show 0 + 1 * k.val = k.val; omega
    | ⟨1, _⟩ => show 512 * d.val + 256 * h.val + 1 * b.val = 512 * d.val + 256 * h.val + b.val; omega

theorem beside_at (H : Held I X W) (s d : Dev nD) (a b : Fin 512) :
    beside (Yf I s d 0) (Yf I s d 1) (ix2 a b) = clip X W ⟨512 * s.val + a.val, by have : s.val < 4 := s.isLt; omega⟩
      ⟨512 * d.val + b.val, by have : d.val < 4 := d.isLt; omega⟩ := by
  unfold beside
  split
  · exact (Yf_at H s d 0 a _).trans (congrArg (clip X W _) (Fin.ext (by simp)))
  · rename_i hb
    have hb : ¬ b.val < 256 := hb
    refine (Yf_at H s d 1 a _).trans (congrArg (clip X W _) (Fin.ext ?_))
    show 512 * d.val + 256 * 1 + (b.val - 256) = 512 * d.val + b.val
    omega

theorem Z_at (H : Held I X W) (c s : Dev nD) (a b : Fin 512) :
    Z I c s (ix2 a b) = clip X W ⟨512 * s.val + a.val, by have : s.val < 4 := s.isLt; omega⟩
      ⟨512 * c.val + b.val, by have : c.val < 4 := c.isLt; omega⟩ := by
  unfold Z
  split
  · rename_i h; subst h; exact beside_at H s s a b
  · exact beside_at H s c a b

/-- A device ends with its block of columns of the reference's result. -/
theorem Zall_block (H : Held I X W) (c : Dev nD) (v : S2048x2048.Idx → Elt Ideal .f32) (hv : ∀ a b, v (ix2 a b) = clip X W a b) :
    Zall I c = Layout.block ⟨2, ![2048, 512]⟩ ⟨2, ![2048, 2048]⟩ 1 4 c v := by
  funext i
  have h0 : (i 0).val < 2048 := (i 0).isLt
  have h1 : (i 1).val < 512 := (i 1).isLt
  have hc : c.val < 4 := c.isLt
  rw [Layout.block_apply]
  have e : (Layout.Tiles.idx (S := ⟨2, ![2048, 512]⟩) (T := ⟨2, ![2048, 2048]⟩) (a := 1) (k := 4) (by decide) c i)
      = ix2 (i 0) (⟨512 * c.val + (i 1).val, by omega⟩ : Fin 2048) := by
    funext x; apply Fin.ext
    match x with
    | ⟨0, _⟩ => rfl
    | ⟨1, _⟩ => show c.val * 512 + (i 1).val = 512 * c.val + (i 1).val; omega
  rw [e]
  refine Eq.trans ?_ (hv _ _).symm
  refine (Z_at H c _ _ (i 1)).trans ?_
  refine congrArg (fun r => clip X W r _) (Fin.ext ?_)
  show 512 * ((i 0).val / 512) + (i 0).val % 512 = (i 0).val
  omega

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem

/-- The idealized kernel's frame: the run, which holds for any float values, at the exact reals. -/
theorem frame_pi : Cert.quiescent_KernelIdeal := fun m g _ =>
  (θ_run (Cert.KernelIdeal.defs (F := Ideal)) _ _).mono (fun _ h => ⟨fun c => ⟨(h.1 c).1, (h.1 c).2.1⟩, h.2⟩)
    (Cert.KernelIdeal.Talk.run_main (F := Ideal) m g)

/-- The kernel's frame: no operation was rewritten, so the two programs are the same text, and the same run at the machine's
    floats is the kernel's. -/
theorem frame_p : Cert.quiescent_Kernel := fun m g _ =>
  (θ_run (Cert.KernelIdeal.defs (F := Bits)) _ _).mono (fun _ h => ⟨fun c => ⟨(h.1 c).1, (h.1 c).2.1⟩, h.2⟩)
    (Cert.KernelIdeal.Talk.run_main (F := Bits) m g)

/-- The reference's frame: its run leaves its arguments alone, and it has no semaphores. -/
theorem frame_ri : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- The values: each device ends with its block of columns of the reference's result. -/
theorem algebraic : Cert.algebraic_KernelIdeal_ReferenceIdeal := by
  intro m g m' g' _ hagree
  refine ⟨_, ?_, (θ_run (Cert.ReferenceIdeal.defs (F := Ideal)) _ _).mono (fun r h => h 0) (Cert.ReferenceIdeal.Value.run (F := Ideal) m' g')⟩
  exact (θ_run (Cert.KernelIdeal.defs (F := Ideal)) _ _).mono
    (fun r h c => ⟨(h.1 c).2.2.1.trans
      (Cert.KernelIdeal.Talk.Zall_block (I := Cert.KernelIdeal.Talk.inputs m) hagree c _ (Cert.KernelIdeal.Talk.reference_at _ _)),
      (h.1 c).1, (h.1 c).2.1⟩)
    (Cert.KernelIdeal.Talk.run_main (F := Ideal) m g)

/-- All five claims. -/
theorem claim : Cert.Claim := ⟨Cert.Kernel.Gen.facts, Cert.KernelIdeal.Gen.facts, Cert.ReferenceIdeal.Gen.facts,
  frame_p, frame_pi, frame_ri, trivial, algebraic⟩

end Cert.Proof

end
